-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16x512x512 : Shape := ⟨3, ![16, 512, 512]⟩
abbrev S16x512 : Shape := ⟨2, ![16, 512]⟩
abbrev S16 : Shape := ⟨1, ![16]⟩
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel

variable [Facts]

def fn {F : FTy → Type} [FloatOps F] (main_arg0 : FVec F S16x512x512 .f32) (main_arg1 : IVec S16x512 32) (main_arg2 : IVec S16 32) (main_arg3 : FVec F S100000x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x1 .f32) (main_arg16 : FVec F S1 .f32) : IVec S_ 1 :=
  let main_c : IVec S_ 32 := constantI S_ 32 0#32
  let main_v0 : IVec S16x512 32 := broadcastInDim S16x512 ![] bcast_S_S16x512 main_c
  let main_v1 : IVec S16x512 1 := cmpi .sge main_arg1 main_v0
  let main_c_0 : IVec S_ 32 := constantI S_ 32 100000#32
  let main_v2 : IVec S16x512 32 := broadcastInDim S16x512 ![] bcast_S_S16x512 main_c_0
  let main_v3 : IVec S16x512 1 := cmpi .slt main_arg1 main_v2
  let main_v4 : IVec S16x512 1 := andi main_v1 main_v3
  let main_c_1 : IVec S_ 1 := constantI S_ 1 1#1
  let main_v5 : IVec S_ 1 := (fun x v => Host.reduce IntOp.andi x v reducesTo_S16x512_S_d0_1 h_S_) main_v4 main_c_1
  main_v5
-- ==== Kernel.lean ====
abbrev S16x512x512 : Shape := ⟨3, ![16, 512, 512]⟩
abbrev S16x512 : Shape := ⟨2, ![16, 512]⟩
abbrev S16 : Shape := ⟨1, ![16]⟩
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S64x128 : Shape := ⟨2, ![64, 128]⟩
abbrev S8192x128 : Shape := ⟨2, ![8192, 128]⟩
abbrev S2x128 : Shape := ⟨2, ![2, 128]⟩
abbrev S256x128 : Shape := ⟨2, ![256, 128]⟩
abbrev S_ : Shape := ⟨0, ![]⟩
abbrev S1x128 : Shape := ⟨2, ![1, 128]⟩
abbrev S16x512x128 : Shape := ⟨3, ![16, 512, 128]⟩
abbrev S4x128 : Shape := ⟨2, ![4, 128]⟩
abbrev S128x384 : Shape := ⟨2, ![128, 384]⟩
abbrev S16x1 : Shape := ⟨2, ![16, 1]⟩
abbrev S16x512x1 : Shape := ⟨3, ![16, 512, 1]⟩
abbrev S8x512x512 : Shape := ⟨3, ![8, 512, 512]⟩
abbrev S8x512x128 : Shape := ⟨3, ![8, 512, 128]⟩
abbrev S8x512x1 : Shape := ⟨3, ![8, 512, 1]⟩
abbrev S1x1 : Shape := ⟨2, ![1, 1]⟩
abbrev S512x1 : Shape := ⟨2, ![512, 1]⟩
abbrev S1x512x128 : Shape := ⟨3, ![1, 512, 128]⟩
abbrev S512x128 : Shape := ⟨2, ![512, 128]⟩
abbrev S1x512x512 : Shape := ⟨3, ![1, 512, 512]⟩
abbrev S512x512 : Shape := ⟨2, ![512, 512]⟩
abbrev S512 : Shape := ⟨1, ![512]⟩
abbrev S512x384 : Shape := ⟨2, ![512, 384]⟩
abbrev S1x512x1 : Shape := ⟨3, ![1, 512, 1]⟩

abbrev nBuf : Table → Nat
  | .hbm => 30
  | .local .tc .vmem => 11
  | .local .tc .smem => 2
  | .local .scVector .vmem => 2
  | _ => 0

abbrev bufTy : (tb : Table) → Fin (nBuf tb) → BufTy
  | .hbm, ⟨0, _⟩ => ⟨S16x512x512, .f32⟩
  | .hbm, ⟨1, _⟩ => ⟨S16x512, .i32⟩
  | .hbm, ⟨2, _⟩ => ⟨S16, .i32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S64x128, .i32⟩
  | .hbm, ⟨18, _⟩ => ⟨S8192x128, .f32⟩
  | .hbm, ⟨19, _⟩ => ⟨S16x512x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S4x128, .f32⟩
  | .hbm, ⟨25, _⟩ => ⟨S128x384, .f32⟩
  | .hbm, ⟨26, _⟩ => ⟨S128x384, .f32⟩
  | .hbm, ⟨27, _⟩ => ⟨S16x1, .i32⟩
  | .hbm, ⟨28, _⟩ => ⟨S16x512x1, .f32⟩
  | .hbm, ⟨29, _⟩ => ⟨S16x512, .f32⟩
  | .local .tc .vmem, ⟨0, _⟩ => ⟨S8x512x512, .f32⟩
  | .local .tc .vmem, ⟨1, _⟩ => ⟨S8x512x512, .f32⟩
  | .local .tc .vmem, ⟨2, _⟩ => ⟨S8x512x128, .f32⟩
  | .local .tc .vmem, ⟨3, _⟩ => ⟨S8x512x128, .f32⟩
  | .local .tc .vmem, ⟨4, _⟩ => ⟨S128x384, .f32⟩
  | .local .tc .vmem, ⟨5, _⟩ => ⟨S128x384, .f32⟩
  | .local .tc .vmem, ⟨6, _⟩ => ⟨S128x128, .f32⟩
  | .local .tc .vmem, ⟨7, _⟩ => ⟨S4x128, .f32⟩
  | .local .tc .vmem, ⟨8, _⟩ => ⟨S128x1, .f32⟩
  | .local .tc .vmem, ⟨9, _⟩ => ⟨S8x512x1, .f32⟩
  | .local .tc .vmem, ⟨10, _⟩ => ⟨S8x512x1, .f32⟩
  | .local .tc .smem, ⟨0, _⟩ => ⟨S16x1, .i32⟩
  | .local .tc .smem, ⟨1, _⟩ => ⟨S1, .f32⟩
  | .local .scVector .vmem, ⟨0, _⟩ => ⟨S2x128, .i32⟩
  | .local .scVector .vmem, ⟨1, _⟩ => ⟨S256x128, .f32⟩
  | _, _ => ⟨S16x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_arg3_scv : Ref sig .scVector := ⟨.hbm, 3, rfl⟩
abbrev main_v0_scv : Ref sig .scVector := ⟨.hbm, 17, rfl⟩
abbrev main_v1_scv : Ref sig .scVector := ⟨.hbm, 18, rfl⟩
abbrev cc1_stg2_0 : Ref sig .tc := ⟨.vmem, 0, rfl⟩
abbrev cc1_stg2_1 : Ref sig .tc := ⟨.vmem, 1, rfl⟩
abbrev cc1_stg3_0 : Ref sig .tc := ⟨.vmem, 2, rfl⟩
abbrev cc1_stg3_1 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg9_1 : Ref sig .tc := ⟨.vmem, 10, rfl⟩
abbrev cc1_stg0_0 : Ref sig .tc := ⟨.smem, 0, rfl⟩
abbrev cc1_stg1_0 : Ref sig .tc := ⟨.smem, 1, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem9_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_22_r0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v19 : BitVec 32 := Scalar.muli v1 c256_i32
  let c0_i32_22_r1 : BitVec 32 := 0#32
  ![v19.toNat, 0]
abbrev grid1 : Pipeline.Grid := ⟨1, ![2], ![false]⟩

def k1_off1 (i : grid1.Coords) (c0_i32 : BitVec 32) : Fin 2 → Nat :=
  let arg0 : BitVec 32 := BitVec.ofNat 32 (i 0).val
  let c8_i32 : BitVec 32 := 8#32
  let v18 : BitVec 32 := Scalar.muli arg0 c8_i32
  let v19 : BitVec 32 := Scalar.addi v18 c0_i32
  let v20 : Index := Scalar.indexCast v19
  let c0_12 : Index := 0#32
  ![v20.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S16x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8x512x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x512x512 : Shape := ⟨3, ![16, 512, 512]⟩
abbrev S16x512 : Shape := ⟨2, ![16, 512]⟩
abbrev S16 : Shape := ⟨1, ![16]⟩
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S16x512x1 : Shape := ⟨3, ![16, 512, 1]⟩
abbrev S1x1x1 : Shape := ⟨3, ![1, 1, 1]⟩
abbrev S16x512x128 : Shape := ⟨3, ![16, 512, 128]⟩
abbrev S512 : Shape := ⟨1, ![512]⟩
abbrev S1x512 : Shape := ⟨2, ![1, 512]⟩
abbrev S16x1 : Shape := ⟨2, ![16, 1]⟩
abbrev S1x1x128 : Shape := ⟨3, ![1, 1, 128]⟩

abbrev nBuf : Space → Nat
  | .hbm => 211
  | .vmem => 0
  | .smem => 0
  | _ => 0

abbrev hbmTy0_0 (i : Nat) : BufTy := match i % 128 with
  | 0 => ⟨S16x512x512, .f32⟩
  | 1 => ⟨S16x512, .i32⟩
  | 2 => ⟨S16, .i32⟩
  | 3 => ⟨S100000x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x1, .f32⟩
  | 16 => ⟨S1, .f32⟩
  | 17 => ⟨S_, .i32⟩
  | 18 => ⟨S16x512, .i32⟩
  | 19 => ⟨S16x512, .i1⟩
  | 20 => ⟨S_, .i32⟩
  | 21 => ⟨S16x512, .i32⟩
  | 22 => ⟨S16x512, .i32⟩
  | 23 => ⟨S16x512, .i32⟩
  | 24 => ⟨S16x512x1, .i32⟩
  | 25 => ⟨S1, .i32⟩
  | 26 => ⟨S_, .i32⟩
  | 27 => ⟨S16x512x1, .i32⟩
  | 28 => ⟨S16x512x1, .i1⟩
  | 29 => ⟨S1x1x1, .i32⟩
  | 30 => ⟨S16x512x1, .i32⟩
  | 31 => ⟨S16x512x1, .i1⟩
  | 32 => ⟨S16x512x1, .i1⟩
  | 33 => ⟨S_, .i1⟩
  | 34 => ⟨S16x512, .i1⟩
  | 35 => ⟨S16x512x128, .f32⟩
  | 36 => ⟨S16x512x128, .i1⟩
  | 37 => ⟨S_, .f32⟩
  | 38 => ⟨S16x512x128, .f32⟩
  | 39 => ⟨S16x512x128, .f32⟩
  | 40 => ⟨S512, .i32⟩
  | 41 => ⟨S1x512, .i32⟩
  | 42 => ⟨S16x1, .i32⟩
  | 43 => ⟨S16x512, .i32⟩
  | 44 => ⟨S16x512, .i32⟩
  | 45 => ⟨S16x512, .i1⟩
  | 46 => ⟨S16x512, .f32⟩
  | 47 => ⟨S16x512x1, .f32⟩
  | 48 => ⟨S16x512x128, .f32⟩
  | 49 => ⟨S16x512x128, .f32⟩
  | 50 => ⟨S_, .f32⟩
  | 51 => ⟨S16x512, .f32⟩
  | 52 => ⟨S16x512x1, .f32⟩
  | 53 => ⟨S_, .f32⟩
  | 54 => ⟨S_, .f32⟩
  | 55 => ⟨S16x512x1, .f32⟩
  | 56 => ⟨S16x512x1, .f32⟩
  | 57 => ⟨S16x512x512, .f32⟩
  | 58 => ⟨S16x512x512, .f32⟩
  | 59 => ⟨S16x512x128, .f32⟩
  | 60 => ⟨S16x512x128, .f32⟩
  | 61 => ⟨S1x1x128, .f32⟩
  | 62 => ⟨S16x512x128, .f32⟩
  | 63 => ⟨S16x512x128, .f32⟩
  | 64 => ⟨S16x512x128, .f32⟩
  | 65 => ⟨S16x512x128, .f32⟩
  | 66 => ⟨S16x512x128, .f32⟩
  | 67 => ⟨S1x1x128, .f32⟩
  | 68 => ⟨S16x512x128, .f32⟩
  | 69 => ⟨S16x512x128, .f32⟩
  | 70 => ⟨S16x512x128, .f32⟩
  | 71 => ⟨S16x512x128, .f32⟩
  | 72 => ⟨S_, .f32⟩
  | 73 => ⟨S16x512x128, .f32⟩
  | 74 => ⟨S16x512x128, .f32⟩
  | 75 => ⟨S_, .f32⟩
  | 76 => ⟨S16x512x128, .f32⟩
  | 77 => ⟨S16x512x128, .f32⟩
  | 78 => ⟨S16x512x128, .f32⟩
  | 79 => ⟨S16x512x128, .f32⟩
  | 80 => ⟨S16x512x128, .f32⟩
  | 81 => ⟨S1x1x128, .f32⟩
  | 82 => ⟨S16x512x128, .f32⟩
  | 83 => ⟨S16x512x128, .f32⟩
  | 84 => ⟨S16x512x128, .f32⟩
  | 85 => ⟨S16x512x128, .f32⟩
  | 86 => ⟨S_, .f32⟩
  | 87 => ⟨S16x512x128, .f32⟩
  | 88 => ⟨S16x512x128, .f32⟩
  | 89 => ⟨S_, .f32⟩
  | 90 => ⟨S16x512x128, .f32⟩
  | 91 => ⟨S16x512x128, .f32⟩
  | 92 => ⟨S16x512x128, .f32⟩
  | 93 => ⟨S16x512x128, .f32⟩
  | 94 => ⟨S16x512x128, .f32⟩
  | 95 => ⟨S16x512x128, .f32⟩
  | 96 => ⟨S1x1x128, .f32⟩
  | 97 => ⟨S16x512x128, .f32⟩
  | 98 => ⟨S16x512x128, .f32⟩
  | 99 => ⟨S16x512x128, .f32⟩
  | 100 => ⟨S_, .f32⟩
  | 101 => ⟨S16x512x128, .f32⟩
  | 102 => ⟨S16x512x128, .f32⟩
  | 103 => ⟨S16x512x128, .f32⟩
  | 104 => ⟨S16x512x128, .f32⟩
  | 105 => ⟨S16x512x128, .f32⟩
  | 106 => ⟨S16x512x128, .f32⟩
  | 107 => ⟨S16x512x128, .f32⟩
  | 108 => ⟨S16x512x128, .f32⟩
  | 109 => ⟨S16x512x128, .f32⟩
  | 110 => ⟨S1x1x128, .f32⟩
  | 111 => ⟨S16x512x128, .f32⟩
  | 112 => ⟨S16x512x128, .f32⟩
  | 113 => ⟨S16x512x128, .f32⟩
  | 114 => ⟨S16x512x128, .f32⟩
  | 115 => ⟨S16x512x128, .f32⟩
  | 116 => ⟨S1x1x128, .f32⟩
  | 117 => ⟨S16x512x128, .f32⟩
  | 118 => ⟨S16x512x128, .f32⟩
  | 119 => ⟨S16x512x128, .f32⟩
  | 120 => ⟨S16x512x128, .f32⟩
  | 121 => ⟨S_, .f32⟩
  | 122 => ⟨S16x512x128, .f32⟩
  | 123 => ⟨S16x512x128, .f32⟩
  | 124 => ⟨S_, .f32⟩
  | 125 => ⟨S16x512x128, .f32⟩
  | 126 => ⟨S16x512x128, .f32⟩
  | 127 => ⟨S16x512x128, .f32⟩
  | _ => ⟨S16x512x512, .f32⟩

abbrev hbmTy0_1 (i : Nat) : BufTy := match i % 128 with
  | 0 => ⟨S16x512x128, .f32⟩
  | 1 => ⟨S16x512x128, .f32⟩
  | 2 => ⟨S1x1x128, .f32⟩
  | 3 => ⟨S16x512x128, .f32⟩
  | 4 => ⟨S16x512x128, .f32⟩
  | 5 => ⟨S16x512x128, .f32⟩
  | 6 => ⟨S16x512x128, .f32⟩
  | 7 => ⟨S_, .f32⟩
  | 8 => ⟨S16x512x128, .f32⟩
  | 9 => ⟨S16x512x128, .f32⟩
  | 10 => ⟨S_, .f32⟩
  | 11 => ⟨S16x512x128, .f32⟩
  | 12 => ⟨S16x512x128, .f32⟩
  | 13 => ⟨S16x512x128, .f32⟩
  | 14 => ⟨S16x512x128, .f32⟩
  | 15 => ⟨S16x512x128, .f32⟩
  | 16 => ⟨S16x512x128, .f32⟩
  | 17 => ⟨S1x1x128, .f32⟩
  | 18 => ⟨S16x512x128, .f32⟩
  | 19 => ⟨S16x512x128, .f32⟩
  | 20 => ⟨S16x512x128, .f32⟩
  | 21 => ⟨S_, .f32⟩
  | 22 => ⟨S16x512x128, .f32⟩
  | 23 => ⟨S16x512x128, .f32⟩
  | 24 => ⟨S16x512x128, .f32⟩
  | 25 => ⟨S16x512x128, .f32⟩
  | 26 => ⟨S16x512x128, .f32⟩
  | 27 => ⟨S16x512x128, .f32⟩
  | 28 => ⟨S16x512x128, .f32⟩
  | 29 => ⟨S16x512x128, .f32⟩
  | 30 => ⟨S16x512x128, .f32⟩
  | 31 => ⟨S1x1x128, .f32⟩
  | 32 => ⟨S16x512x128, .f32⟩
  | 33 => ⟨S16x512x128, .f32⟩
  | 34 => ⟨S16x512x128, .f32⟩
  | 35 => ⟨S16x512x128, .f32⟩
  | 36 => ⟨S16x512x128, .f32⟩
  | 37 => ⟨S1x1x128, .f32⟩
  | 38 => ⟨S16x512x128, .f32⟩
  | 39 => ⟨S16x512x128, .f32⟩
  | 40 => ⟨S16x512x128, .f32⟩
  | 41 => ⟨S16x512x128, .f32⟩
  | 42 => ⟨S_, .f32⟩
  | 43 => ⟨S16x512x128, .f32⟩
  | 44 => ⟨S16x512x128, .f32⟩
  | 45 => ⟨S_, .f32⟩
  | 46 => ⟨S16x512x128, .f32⟩
  | 47 => ⟨S16x512x128, .f32⟩
  | 48 => ⟨S16x512x128, .f32⟩
  | 49 => ⟨S16x512x128, .f32⟩
  | 50 => ⟨S16x512x128, .f32⟩
  | 51 => ⟨S1x1x128, .f32⟩
  | 52 => ⟨S16x512x128, .f32⟩
  | 53 => ⟨S16x512x128, .f32⟩
  | 54 => ⟨S16x512x128, .f32⟩
  | 55 => ⟨S16x512x128, .f32⟩
  | 56 => ⟨S_, .f32⟩
  | 57 => ⟨S16x512x128, .f32⟩
  | 58 => ⟨S16x512x128, .f32⟩
  | 59 => ⟨S_, .f32⟩
  | 60 => ⟨S16x512x128, .f32⟩
  | 61 => ⟨S16x512x128, .f32⟩
  | 62 => ⟨S16x512x128, .f32⟩
  | 63 => ⟨S16x512x128, .f32⟩
  | 64 => ⟨S16x512x128, .f32⟩
  | 65 => ⟨S16x512x128, .f32⟩
  | 66 => ⟨S1x1x128, .f32⟩
  | 67 => ⟨S16x512x128, .f32⟩
  | 68 => ⟨S16x512x128, .f32⟩
  | 69 => ⟨S16x512x128, .f32⟩
  | 70 => ⟨S_, .f32⟩
  | 71 => ⟨S16x512x128, .f32⟩
  | 72 => ⟨S16x512x128, .f32⟩
  | 73 => ⟨S16x512x128, .f32⟩
  | 74 => ⟨S16x512x128, .f32⟩
  | 75 => ⟨S16x512x128, .f32⟩
  | 76 => ⟨S16x512x128, .f32⟩
  | 77 => ⟨S16x512x128, .f32⟩
  | 78 => ⟨S16x512x1, .f32⟩
  | 79 => ⟨S1x1x1, .f32⟩
  | 80 => ⟨S16x512x1, .f32⟩
  | 81 => ⟨S16x512x1, .f32⟩
  | 82 => ⟨S16x512, .f32⟩
  | _ => ⟨S16x512x512, .f32⟩

abbrev hbmTy (i : Nat) : BufTy := match i / 128 with
  | 0 => hbmTy0_0 i
  | 1 => hbmTy0_1 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst : Ref sig .tc := ⟨.hbm, 50, rfl⟩
abbrev main_v11 : Ref sig .tc := ⟨.hbm, 51, rfl⟩
abbrev main_v12 : Ref sig .tc := ⟨.hbm, 52, rfl⟩
abbrev main_cst_0 : Ref sig .tc := ⟨.hbm, 53, rfl⟩
abbrev main_call1_v0 : Ref sig .tc := ⟨.hbm, 54, rfl⟩
abbrev main_call1_v1 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_1 : Ref sig .tc := ⟨.hbm, 72, rfl⟩
abbrev main_v29 : Ref sig .tc := ⟨.hbm, 73, rfl⟩
abbrev main_v30 : Ref sig .tc := ⟨.hbm, 74, rfl⟩
abbrev main_cst_2 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_cst_3 : Ref sig .tc := ⟨.hbm, 86, rfl⟩
abbrev main_v41 : Ref sig .tc := ⟨.hbm, 87, rfl⟩
abbrev main_v42 : Ref sig .tc := ⟨.hbm, 88, rfl⟩
abbrev main_cst_4 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_5 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_6 : Ref sig .tc := ⟨.hbm, 121, rfl⟩
abbrev main_v73 : Ref sig .tc := ⟨.hbm, 122, rfl⟩
abbrev main_v74 : Ref sig .tc := ⟨.hbm, 123, rfl⟩
abbrev main_cst_7 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_8 : Ref sig .tc := ⟨.hbm, 135, rfl⟩
abbrev main_v85 : Ref sig .tc := ⟨.hbm, 136, rfl⟩
abbrev main_v86 : Ref sig .tc := ⟨.hbm, 137, rfl⟩
abbrev main_cst_9 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_10 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_11 : Ref sig .tc := ⟨.hbm, 170, rfl⟩
abbrev main_v117 : Ref sig .tc := ⟨.hbm, 171, rfl⟩
abbrev main_v118 : Ref sig .tc := ⟨.hbm, 172, rfl⟩
abbrev main_cst_12 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_13 : Ref sig .tc := ⟨.hbm, 184, rfl⟩
abbrev main_v129 : Ref sig .tc := ⟨.hbm, 185, rfl⟩
abbrev main_v130 : Ref sig .tc := ⟨.hbm, 186, rfl⟩
abbrev main_cst_14 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_15 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩

abbrev nD : Nat := 1
abbrev τ : Topo := Topo.v7x

variable {F : FTy → Type} [FloatOps F]
-- ==== Proof.GatherBatch.lean ====
/-
  Indirect gathers as part of a batch. A tile may start several gathers on one DMA semaphore before it waits for the
  first of them. Each gather is a list of row copies, every row of the same size; here the rows of all the gathers are
  the transfers of one batch (`Transfers.Batch`) on the semaphore's cell. A gather of `o` rows takes the next `o`
  transfers of the batch (`wp_gatherBatch`); the rows delivered are put together again as the destination written
  with the gathered rows, the source's share and the list's share (`rowsDone_join`).
-/
module

public import Idealize.ShloMosaic.Lib.Batch
public import Idealize.ShloMosaic.Lib.SparseCore.Stream

@[expose] public section

noncomputable section

namespace Cert.GatherBatch

open Idealize.ShloMosaic
open Idealize.ShloMosaic.SparseCore
open Idealize.ShloMosaic.Transfers
open Idealize.SL
open Idealize.SL.BI (sProp Storable bigSep bigSep_union bigSep_map)
open scoped Idealize.SL.BI
open Idealize.SL.BI.BIBase Idealize.SL.BI.Laws Idealize.SL.Sem Idealize.SL.ProofMode
open Idealize.SL.RA

/-- The `o` transfers of a batch of `n` from the `j`-th on, as an embedding of `Fin o`. -/
def seg {n o : ℕ} (j : ℕ) (hj : j + o ≤ n) : Fin o ↪ Fin n where
  toFun k := ⟨j + k.val, by omega⟩
  inj' a b h := by
    have := Fin.mk.inj_iff.mp h
    exact Fin.ext (by omega)

/-- The transfers pending from `j` are the next `o` and those pending from `j + o`. -/
theorem pending_seg {n o : ℕ} (j : ℕ) (hj : j + o ≤ n) :
    pending (n := n) j = Finset.univ.map (seg (o := o) j hj) ∪ pending (j + o) := by
  ext t
  simp only [pending, Finset.mem_filter, Finset.mem_univ, true_and, Finset.mem_union, Finset.mem_map]
  constructor
  · intro h
    by_cases h' : j + o ≤ t.val
    · exact Or.inr h'
    · exact Or.inl ⟨⟨t.val - j, by omega⟩, Fin.ext (show j + (t.val - j) = t.val by omega)⟩
  · rintro (⟨k, rfl⟩ | h)
    · exact Nat.le_add_right _ _
    · omega

/-- The next `o` transfers are none of those pending after them. -/
theorem disjoint_seg {n o : ℕ} (j : ℕ) (hj : j + o ≤ n) :
    Disjoint (Finset.univ.map (seg (o := o) j hj)) (pending (n := n) (j + o)) := by
  rw [Finset.disjoint_left]
  intro t ht h
  obtain ⟨k, -, rfl⟩ := Finset.mem_map.mp ht
  have h2 : j + o ≤ j + k.val := (Finset.mem_filter.mp h).2
  have := k.isLt
  omega

/-! ## Two families side by side -/

section Both

variable {M : Type} [URA M] {o : ℕ}

/-- Two families of `o` as one of `o + o`: the first, then the second. -/
def both (A B : Fin o → sProp M) : Fin (o + o) → sProp M := Fin.addCases A B

/-- The first `o` of the two families are the first. -/
theorem both_fst (A B : Fin o → sProp M) (h : 0 + o ≤ o + o) (i : Fin o) : both A B (seg 0 h i) = A i := by
  have e : seg 0 h i = Fin.castAdd o i := Fin.ext (show 0 + i.val = i.val by omega)
  rw [e]; exact Fin.addCases_left i

/-- The next `o` are the second. -/
theorem both_snd (A B : Fin o → sProp M) (h : 0 + o + o ≤ o + o) (i : Fin o) : both A B (seg (0 + o) h i) = B i := by
  have e : seg (0 + o) h i = Fin.natAdd o i := Fin.ext (show 0 + o + i.val = o + i.val by omega)
  rw [e]; exact Fin.addCases_right i

/-- All of the two families are all of the first and all of the second. -/
theorem bigSep_both (A B : Fin o → sProp M) :
    bigSep Finset.univ (both A B) = iprop(bigSep Finset.univ A ∗ bigSep Finset.univ B) := by
  rw [BI.bigSep_univ_equiv finSumFinEquiv (both A B), BI.bigSep_univ_sum]
  have h1 : (fun a : Fin o => both A B (finSumFinEquiv (Sum.inl a))) = A := funext fun a => Fin.addCases_left a
  have h2 : (fun b : Fin o => both A B (finSumFinEquiv (Sum.inr b))) = B := funext fun b => Fin.addCases_right b
  rw [h1, h2]; rfl

end Both

section Rule

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

instance both_storable {o : ℕ} (A B : Fin o → sProp 𝕄) [∀ i, Storable (upEmb : UEmb _ 𝕄) (A i)] [∀ i, Storable (upEmb : UEmb _ 𝕄) (B i)]
    (t : Fin (o + o)) : Storable (upEmb : UEmb _ 𝕄) (both A B t) := by
  refine Fin.addCases (fun i => ?_) (fun i => ?_) t
  · unfold both; rw [Fin.addCases_left]; infer_instance
  · unfold both; rw [Fin.addCases_right]; infer_instance

/-- The stream a gather starts: its list, and for every word of the list the copy of that row. -/
abbrev streamOf (src : Memref sig c.2.kind sp s₀ e) (dst : Memref sig c.2.kind .vmem s e) (hg : s₀.Gathers a s)
    (offs : Memref sig c.2.kind .vmem si .i32) (hn : si.numel = s.size hg.axis') (sem : DmaSem sig)
    (hsrc : src.view.WordExact) (he : e.bits = 32) (hsp : sp = .hbm ∨ sp = .shared) (hr : s₀.StreamRows a) : Stream nD τ sig (Elt F) :=
  Stream.issued c offs.view hn sem (fun j w => (rowOf (s₀.size hg.axis) w).map (gatherRow c src dst hg sem hsrc he hsp hr j)) 0

/-- What row `j` of a gather delivers: row `j` of the destination written with the row of the source the list names,
    the list's `j`-th entry back, and the `j`-th piece of the source's share back. -/
def rowDone (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
          ((dst.view.slice (s.rowRect hg.axis' j)).write (Elt F) fd
            (fun i => src.view.read (Elt F) fs (hg.rowIdx (rows (offs.view.read (Elt F) fo) hn hin j) i)) Finset.univ))
      ∗ (offs.view.loc c ↦[{offs.view.emb (si.rowMajor.symm (j.cast hn.symm))}]{qo} fo))
    ∗ (src.view.loc c ↦[src.view.set]{pieceOf q _ ho j} fs))

instance rowDone_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowDone c src dst hg offs hn ho q qo fs fd fo hin j) := by
  unfold rowDone; infer_instance

/-- All the rows of a gather delivered: the destination written with the gathered rows, and both shares whole again. -/
theorem rowsDone_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowDone c src dst hg offs hn ho q qo fs fd fo hin)
      ⊢ (iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) : sProp 𝕄) := by
  have hbij : Function.Bijective fun j : Fin (s.size hg.axis') => si.rowMajor.symm (j.cast hn.symm) :=
    si.rowMajor.symm.bijective.comp (finCongr hn.symm).bijective
  have hrows := pointsTo_rows_write (Ix := Ix) (Val := Elt F) (Name := Name) (U := U) (Lvl := Lvl) c dst.view hg.axis' fd
    (fun j i => src.view.read (Elt F) fs (hg.rowIdx (rows (offs.view.read (Elt F) fo) hn hin j) i))
    (gatherPayload hg (src.view.read (Elt F) fs) (rows (offs.view.read (Elt F) fo) hn hin))
    (fun j i => by unfold gatherPayload; rw [Shape.Gathers.idx_rowRect_emb])
  unfold rowDone
  iintro H
  ihave H' := bigSep_sep_out _ _ _ $$ H
  icases H' with ⟨Hdo, Hsrc⟩
  ihave Hdo' := bigSep_sep_out _ _ _ $$ Hdo
  icases Hdo' with ⟨Hdst, Hoff⟩
  isplitl [Hdst]
  · iapply hrows; iexact Hdst
  isplitl [Hsrc]
  · iapply (Entails.of_eq (pointsTo_piecesOf (src.view.set) fs ho q).symm) $$ Hsrc
  · iapply (Entails.of_eq (pointsTo_entries c offs.view _ hbij qo fo).symm) $$ Hoff

/-- ONE ROW of a gather, given the right to pay for it: from the row of the destination, the list's entry, the piece of
    the source's share and a credit update that delivers `rowDone`, the resources the machine asks for the row. -/
theorem row_resources {src : Memref sig c.2.kind sp s₀ e} {dst : Memref sig c.2.kind .vmem s e} {hg : s₀.Gathers a s}
    {offs : Memref sig c.2.kind .vmem si .i32} {hn : si.numel = s.size hg.axis'} {sem : DmaSem sig}
    {hsrc : src.view.WordExact} {he : e.bits = 32} {hsp : sp = .hbm ∨ sp = .shared} {hr : s₀.StreamRows a} {ho : 0 < s.size hg.axis'}
    {q qo : PosShare TreeShare} {fs : Buf (Elt F) (src.view.loc c)} {fd : Buf (Elt F) (dst.view.loc c)} {fo : Buf (Elt F) (offs.view.loc c)}
    {hin : ∀ x, (offs.view.read (Elt F) fo x).toNat < s₀.size hg.axis} {T : sProp 𝕄} (j : Fin (s.size hg.axis'))
    (hT : T ⊢ creditUpdate (c, SemLoc.dma sem) ((dst.slice (s.rowRect hg.axis' j) (s.stride_rowRect hg.axis' j)).view.dmaCredit) 0
        (rowDone c src dst hg offs hn ho q qo fs fd fo hin j)) :
    iprop((((dst.view.loc c ↦[(dst.view.slice (s.rowRect hg.axis' j)).set]{fullShare} fd)
        ∗ (offs.view.loc c ↦[{offs.view.emb (si.rowMajor.symm (j.cast hn.symm))}]{qo} fo))
        ∗ (src.view.loc c ↦[src.view.set]{pieceOf q _ ho j} fs)) ∗ T)
      ⊢ iprop((streamOf c src dst hg offs hn sem hsrc he hsp hr).heldEntry qo fo j
          ∗ ((streamOf c src dst hg offs hn sem hsrc he hsp hr).heldEntry qo fo j
            -∗ rowRes c (gatherRow c src dst hg sem hsrc he hsp hr j (rows (offs.view.read (Elt F) fo) hn hin j)))) := by
  iintro ⟨⟨⟨Hrow, Hent⟩, Hpiece⟩, HT⟩
  isplitl [Hent]; · iexact Hent
  iintro Hent
  unfold rowRes
  iexists pieceOf q _ ho j, fs, iprop((dst.view.loc c ↦[(dst.view.slice (s.rowRect hg.axis' j)).set]{fullShare}
      ((dst.view.slice (s.rowRect hg.axis' j)).write (Elt F) fd
        (fun i => src.view.read (Elt F) fs (hg.rowIdx (rows (offs.view.read (Elt F) fo) hn hin j) i)) Finset.univ))
    ∗ (offs.view.loc c ↦[{offs.view.emb (si.rowMajor.symm (j.cast hn.symm))}]{qo} fo))
  isplitl [Hpiece]; · iexact Hpiece
  isplitl [Hrow Hent]
  · iapply writeUpdate_frame
    isplitl [Hrow]
    · iapply (pointsTo_writeUpdate c (v := dst.view.slice (s.rowRect hg.axis' j)) subset_rfl) $$ Hrow
    · iexact Hent
  · iapply hT $$ HT

/-- A GATHER OF `o` ROWS AS THE NEXT `o` TRANSFERS OF A BATCH: holding a share of the source, the destination outright,
    a share of the list with every word in range, and a batch on the semaphore's cell with `j` transfers issued, each of
    one row's credit `N` (`hN`) and the next `o` delivering what the gather's rows deliver (`hD`), the tile issues the
    gather and continues holding the batch with `j + o` transfers issued. -/
theorem wp_gatherBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α} {ho : 0 < s.size hg.axis'}
    {q qo : PosShare TreeShare} {fs : Buf (Elt F) (src.view.loc c)} {fd : Buf (Elt F) (dst.view.loc c)} {fo : Buf (Elt F) (offs.view.loc c)}
    (hin : ∀ x, (offs.view.read (Elt F) fo x).toNat < s₀.size hg.axis)
    (ι : Ix) (N : ℕ) (hN : ∀ j, (dst.slice (s.rowRect hg.axis' j) (s.stride_rowRect hg.axis' j)).view.dmaCredit = N)
    {D : Fin n → sProp 𝕄} {j u : ℕ} (hj : j + s.size hg.axis' ≤ n) (hu : u ≤ j * N)
    (hD : ∀ i, rowDone c src dst hg offs hn ho q qo fs fd fo hin i ⊢ D (seg j hj i)) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have hbij : Function.Bijective fun j : Fin (s.size hg.axis') => si.rowMajor.symm (j.cast hn.symm) :=
    si.rowMajor.symm.bijective.comp (finCongr hn.symm).bijective
  have hagree : (streamOf (F := F) c src dst hg offs hn sem hsrc he hsp hr).RowsAgree := by
    intro i w w' ρ ρ' h h'
    obtain ⟨_, _, rfl⟩ := Option.map_eq_some_iff.mp h
    obtain ⟨_, _, rfl⟩ := Option.map_eq_some_iff.mp h'
    rfl
  have hrow : ∀ i, (streamOf (F := F) c src dst hg offs hn sem hsrc he hsp hr).row i
      ((streamOf (F := F) c src dst hg offs hn sem hsrc he hsp hr).word fo i)
        = some (gatherRow c src dst hg sem hsrc he hsp hr i (rows (offs.view.read (Elt F) fo) hn hin i)) := fun i => by
    change (rowOf (s₀.size hg.axis) (offs.view.read (Elt F) fo (si.rowMajor.symm (i.cast hn.symm)))).map _ = _
    rw [rowOf_of_lt (hin _)]; rfl
  have hsum : ∑ i, (gatherRow (F := F) c src dst hg sem hsrc he hsp hr i (rows (offs.view.read (Elt F) fo) hn hin i)).dst.view.dmaCredit
      = s.size hg.axis' * N := by
    rw [Finset.sum_congr rfl fun i _ => hN i, Finset.sum_const, Finset.card_univ, Fintype.card_fin, smul_eq_mul]
  unfold Batch
  iintro ⟨Hs, Hd, Ho, ⟨%γ, %γ₀, %κ, #Hinv, HI, H0, Hcred⟩⟩ Hk
  ihave Hd' := (Entails.of_eq (pointsTo_rows c dst.view hg.axis' fullShare fd)) $$ Hd
  ihave Ho' := (Entails.of_eq (pointsTo_entries c offs.view _ hbij qo fo)) $$ Ho
  ihave Hs' := (Entails.of_eq (pointsTo_piecesOf (src.view.set) fs ho q)) $$ Hs
  ihave HI' := (show bigSep (pending j) (fun t => count EC (γ t) 0)
      ⊢ iprop(bigSep Finset.univ (fun i : Fin (s.size hg.axis') => count EC (γ (seg j hj i)) 0)
          ∗ bigSep (pending (j + s.size hg.axis')) (fun t => count EC (γ t) 0))
    from Entails.of_eq (by rw [pending_seg j hj, bigSep_union (disjoint_seg j hj), bigSep_map]; rfl)) $$ HI
  icases HI' with ⟨Hγ, HI⟩
  iapply (wp_enqueueIndirectDma 𝒱 c bd Set.univ (qo := qo) (fo := fo) ι (s.size hg.axis' * N) hagree hrow hsum) $$ [Hd' Ho' Hs' Hγ]
  · have hone : ∀ i : Fin (s.size hg.axis'), iprop(inv κ (batchBody EC (c, SemLoc.dma sem) N D γ γ₀)
          ∗ ((((dst.view.loc c ↦[(dst.view.slice (s.rowRect hg.axis' i)).set]{fullShare} fd)
            ∗ (offs.view.loc c ↦[{offs.view.emb (si.rowMajor.symm (i.cast hn.symm))}]{qo} fo))
            ∗ (src.view.loc c ↦[src.view.set]{pieceOf q _ ho i} fs)) ∗ count EC (γ (seg j hj i)) 0))
        ⊢ iprop((streamOf c src dst hg offs hn sem hsrc he hsp hr).heldEntry qo fo i
          ∗ ((streamOf c src dst hg offs hn sem hsrc he hsp hr).heldEntry qo fo i
            -∗ rowRes c (gatherRow c src dst hg sem hsrc he hsp hr i (rows (offs.view.read (Elt F) fo) hn hin i)))) := fun i => by
      refine Entails.trans ?_ (row_resources c (ho := ho) (q := q) (fs := fs) (fd := fd) i (T := iprop(inv κ (batchBody EC (c, SemLoc.dma sem) N D γ γ₀) ∗ count EC (γ (seg j hj i)) 0)) ?_)
      · iintro ⟨#Hinv, H, Hc⟩
        isplitl [H]; · iexact H
        isplitr; · iexact Hinv
        iexact Hc
      · rw [hN i]
        exact batch_creditUpdate EC (seg j hj i) (hD i)
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun i _ => hone i)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Rule

end Cert.GatherBatch
-- ==== Proof.Vals.lean ====
/-
  What the SparseCore gather computes, as a function of the list of row numbers and the table: row `r` of the result is
  the row of the table that entry `r` of the list names, the list laid out in rows of 128. Shared by every part of the
  proof that speaks about the gathered rows.
-/
module

public import Idealize.ShloMosaic.Lib.ValueIdxCore

@[expose] public section

noncomputable section

namespace Cert.Vals

open Idealize.ShloMosaic Idealize.ShloMosaic.ValueIdx

/-- `R` gathered rows: row `r` is the row of the table that entry `r` of the list names; the list has 128 entries a row.
    (Taken modulo the table's height, so that it is a row whatever the list holds.) -/
def gathered {n R : ℕ} (h : R = n * 128) {α : Type} (X : (⟨2, ![n, 128]⟩ : Shape).Idx → BitVec 32)
    (tb : (⟨2, ![100000, 128]⟩ : Shape).Idx → α) : (⟨2, ![R, 128]⟩ : Shape).Idx → α := fun x =>
  tb (ix2 ⟨(X (ix2 ⟨(x 0).val / 128, by have := idx2_lt0 x; omega⟩ ⟨(x 0).val % 128, Nat.mod_lt _ (by decide)⟩)).toNat % 100000,
    Nat.mod_lt _ (by decide)⟩ (x 1))

/-- Two indices of two axes with the same coordinates are the same. -/
theorem ext2 {a b : ℕ} {x y : (⟨2, ![a, b]⟩ : Shape).Idx} (h0 : (x 0).val = (y 0).val) (h1 : (x 1).val = (y 1).val) : x = y :=
  funext fun d => match d with
    | ⟨0, _⟩ => Fin.ext h0
    | ⟨1, _⟩ => Fin.ext h1

/-- A gathered row, when the list's entry is in range: the table at the row the entry names. -/
theorem gathered_apply {n R : ℕ} (h : R = n * 128) {α : Type} (X : (⟨2, ![n, 128]⟩ : Shape).Idx → BitVec 32)
    (tb : (⟨2, ![100000, 128]⟩ : Shape).Idx → α) (x : (⟨2, ![R, 128]⟩ : Shape).Idx) (y : (⟨2, ![100000, 128]⟩ : Shape).Idx)
    (l : (⟨2, ![n, 128]⟩ : Shape).Idx) (hl0 : (l 0).val = (x 0).val / 128) (hl1 : (l 1).val = (x 0).val % 128)
    (hy0 : (y 0).val = (X l).toNat) (hy1 : (y 1).val = (x 1).val) : gathered h X tb x = tb y := by
  have hlt : (X l).toNat < 100000 := hy0 ▸ idx2_lt0 y
  have el : ix2 ⟨(x 0).val / 128, by have := idx2_lt0 x; omega⟩ ⟨(x 0).val % 128, Nat.mod_lt _ (by decide)⟩ = l :=
    ext2 hl0.symm hl1.symm
  unfold gathered
  refine congrArg tb (ext2 ?_ hy1.symm)
  show (X _).toNat % 100000 = (y 0).val
  rw [el, Nat.mod_eq_of_lt hlt, hy0]

end Cert.Vals

end
-- ==== Proof.Tile.lean ====
/-
  The SparseCore call: thirty-two tiles, each fetching two rows of 128 row numbers, starting two indirect gathers of 128
  rows of the table on one semaphore, waiting for both, and writing its 256 rows out. `tile_body` runs one tile and says
  what it leaves: its block of the result holds the rows the list names (`Cert.Vals.gathered`). `tileObl` and
  `vecSplit` are the two obligations of the launch.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.GatherBatch
public import proofs.«01_k».proof.Proof.Vals

@[expose] public section

noncomputable section

namespace Cert.KernelIdeal.Tile

open Cert.KernelIdeal Cert.KernelIdeal.Gen

open Idealize.ShloMosaic Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.ShloMosaic.Transfers (Batch)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.GatherBatch Cert.Vals

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores and buffers are where the launch theorem wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The buffers, their blocks, the shares of the table -/

abbrev iLoc (d : Dev nD) : Loc nD τ sig := (SparseCore.T d).loc main_v0
abbrev tLoc (d : Dev nD) : Loc nD τ sig := (SparseCore.T d).loc main_arg3
abbrev oLoc (d : Dev nD) : Loc nD τ sig := (SparseCore.T d).loc main_v1

theorem idiv : 32 ∣ S64x128.size 0 := ⟨2, rfl⟩
theorem odiv : 32 ∣ S8192x128.size 0 := ⟨256, rfl⟩
abbrev irow (w : Fin 32) : Rect S64x128 := Rect.part (s := S64x128) (a₀ := 0) idiv w
abbrev orow (w : Fin 32) : Rect S8192x128 := Rect.part (s := S8192x128) (a₀ := 0) odiv w
/-- The two rows of the list, and the block of the result, that are tile `w`'s. -/
abbrev iRowSet (w : Fin 32) : Finset S64x128.Idx := ((Memref.whole main_v0_scv : Memref sig .scVector .hbm S64x128 .i32).view.slice (irow w)).set
abbrev oRowSet (w : Fin 32) : Finset S8192x128.Idx := ((Memref.whole main_v1_scv : Memref sig .scVector .hbm S8192x128 .f32).view.slice (orow w)).set

/-- Tile `(c, i)`'s number. -/
def wid (c : Fin 2) (i : Fin 16) : Fin 32 := ⟨2 * i.val + c.val, by omega⟩

/-- Tile `w`'s share of the table. -/
abbrev tq (w : Fin 32) : PosShare TreeShare := pieceOf fullShare 32 (by decide) w

variable [FloatOps F]

/-! ## What the handshakes carry -/

variable (fi : (d : Dev nD) → Buf (Elt F) (iLoc d)) (ft : (d : Dev nD) → Buf (Elt F) (tLoc d)) (fo : (d : Dev nD) → Buf (Elt F) (oLoc d))

/-- The rows the list names. -/
abbrev rowsOf (d : Dev nD) : Buf (Elt F) (oLoc d) := gathered (n := 64) (R := 8192) rfl (fi d) (ft d)

abbrev iRowPts (d : Dev nD) (w : Fin 32) : sProp 𝕄 := iLoc d ↦[iRowSet w]{fullShare} fi d
abbrev tShPts (d : Dev nD) (w : Fin 32) : sProp 𝕄 := tLoc d ↦{tq w} ft d
abbrev oRowPts (d : Dev nD) (w : Fin 32) (f : Buf (Elt F) (oLoc d)) : sProp 𝕄 := oLoc d ↦[oRowSet w]{fullShare} f
/-- What tile `w` is given and what it gives back. -/
abbrev tileIn (d : Dev nD) (w : Fin 32) : sProp 𝕄 := iprop(iRowPts fi d w ∗ tShPts ft d w ∗ oRowPts d w (fo d))
abbrev tileOut (d : Dev nD) (w : Fin 32) : sProp 𝕄 := iprop(iRowPts fi d w ∗ tShPts ft d w ∗ oRowPts d w (rowsOf fi ft d))

/-- The call gives each SparseCore what its sixteen tiles are given, and gets back what they give back. -/
def P : (K (F := F)).Pay (nD := nD) (Val := Elt F) (Name := ℕ) (U := UU) where
  st := fun q d c => match q, c with | 0, c => bigSep Finset.univ fun i : Fin 16 => tileIn fi ft fo d (wid c i)
  dn := fun q d c => match q, c with | 0, c => bigSep Finset.univ fun i : Fin 16 => tileOut fi ft d (wid c i)
  go := fun q d c i => match q, c, i with | 0, c, i => tileIn fi ft fo d (wid c i)
  td := fun q d c i => match q, c, i with | 0, c, i => tileOut fi ft d (wid c i)
  x := fun _ _ => iprop(emp)

instance P_storable : (P fi ft fo).IsStorable where
  st q d c := match q, c with
    | 0, c => (inferInstance : BI.Storable (upEmb : UEmb _ 𝕄) (bigSep Finset.univ fun i : Fin 16 => tileIn fi ft fo d (wid c i)))
  dn q d c := match q, c with
    | 0, c => (inferInstance : BI.Storable (upEmb : UEmb _ 𝕄) (bigSep Finset.univ fun i : Fin 16 => tileOut fi ft d (wid c i)))
  go q d c i := match q, c, i with
    | 0, c, i => (inferInstance : BI.Storable (upEmb : UEmb _ 𝕄) (tileIn fi ft fo d (wid c i)))
  td q d c i := match q, c, i with
    | 0, c, i => (inferInstance : BI.Storable (upEmb : UEmb _ 𝕄) (tileOut fi ft d (wid c i)))

/-- What the proof asks of the list: every entry names a row of the table. -/
def InRange : Prop := ∀ (d : Dev nD) (j : S64x128.Idx), (fi d j).toNat < 100000

/-! ## One tile -/

section Tile

variable (d : Dev nD) (L : grid0.Coords)

abbrev cV (L : grid0.Coords) : Fin τ.nSC := (L 0).castLE hcore0
abbrev jV (L : grid0.Coords) : Fin τ.nSub := (L 1).castLE hsub0
abbrev wL (L : grid0.Coords) : Fin 32 := wid (L 0) (L 1)

abbrev irowK (L : grid0.Coords) : Rect S64x128 := Rect.unit (s := S64x128) (k0_off1 L) S2x128.size (k0_off1_inb L)
abbrev orowK (L : grid0.Coords) : Rect S8192x128 := Rect.unit (s := S8192x128) (k0_off2 L) S256x128.size (k0_off2_inb L)
abbrev iRowK (L : grid0.Coords) : Memref sig .scVector .hbm S2x128 .i32 := (Memref.whole main_v0_scv : Memref sig .scVector .hbm S64x128 .i32).slice (irowK L) (fun _ => rfl)
abbrev oRowK (L : grid0.Coords) : Memref sig .scVector .hbm S256x128 .f32 := (Memref.whole main_v1_scv : Memref sig .scVector .hbm S8192x128 .f32).slice (orowK L) (fun _ => rfl)
abbrev tAll : Memref sig .scVector .hbm S100000x128 .f32 := (Memref.whole main_arg3_scv : Memref sig .scVector .hbm S100000x128 .f32).slice (Rect.unit (s := S100000x128) ![0, 0] S100000x128.size inb_S100000x128_S100000x128_0_0) (fun _ => rfl)
/-- The two halves of the row buffer, and the two rows of the fetched list, as the tile addresses them. -/
abbrev rHalf (o : Fin 2 → ℕ) (ho : ∀ a, o a + S128x128.size a ≤ S256x128.size a) : Memref sig .scVector .vmem S128x128 .f32 :=
  (Memref.whole cc0_scratch1 : Memref sig .scVector .vmem S256x128 .f32).slice (Rect.unit (s := S256x128) o S128x128.size ho) (fun _ => rfl)
abbrev sRow (o : Fin 2 → ℕ) (ho : ∀ a, o a + S1x128.size a ≤ S2x128.size a) : Memref sig .scVector .vmem S128 .i32 :=
  ((Memref.whole cc0_scratch0 : Memref sig .scVector .vmem S2x128 .i32).slice (Rect.unit (s := S2x128) o S1x128.size ho) (fun _ => rfl)).squeeze S128 squeezes_S1x128_S128

theorem wL_val : (wL L).val = 2 * (L 1).val + (L 0).val := rfl

theorem irowK_eq : irowK L = irow (wL L) := by
  unfold irowK irow Rect.part Rect.block
  congr 1 <;> funext a
  · rw [k0_off1_eq]
    match a with
    | 0 => simp [Shape.partIx, Shape.partSize]; have hw := wL_val L; omega
    | 1 => simp [Shape.partIx, Shape.partSize]
  · match a with
    | 0 => simp [Shape.partSize]
    | 1 => simp [Shape.partSize]
theorem orowK_eq : orowK L = orow (wL L) := by
  unfold orowK orow Rect.part Rect.block
  congr 1 <;> funext a
  · rw [k0_off2_eq]
    match a with
    | 0 => simp [Shape.partIx, Shape.partSize]; have hw := wL_val L; omega
    | 1 => simp [Shape.partIx, Shape.partSize]
  · match a with
    | 0 => simp [Shape.partSize]
    | 1 => simp [Shape.partSize]

theorem set_iRowK : (iRowK L).view.set = iRowSet (wL L) := by
  show ((Memref.whole main_v0_scv : Memref sig .scVector .hbm S64x128 .i32).view.slice (irowK L)).set = ((Memref.whole main_v0_scv : Memref sig .scVector .hbm S64x128 .i32).view.slice (irow (wL L))).set
  exact irowK_eq L ▸ rfl
theorem set_oRowK : (oRowK L).view.set = oRowSet (wL L) := by
  show ((Memref.whole main_v1_scv : Memref sig .scVector .hbm S8192x128 .f32).view.slice (orowK L)).set = ((Memref.whole main_v1_scv : Memref sig .scVector .hbm S8192x128 .f32).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((Memref.whole main_arg3_scv : Memref sig .scVector .hbm S100000x128 .f32).view.loc (V d (cV L) (jV L)) ↦{q} f : sProp 𝕄) = tLoc d ↦{q} f := rfl
theorem pts_sV (f : Buf (Elt F) ((V d (cV L) (jV L)).loc cc0_scratch0)) :
    ((Memref.whole cc0_scratch0 : Memref sig .scVector .vmem S2x128 .i32).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((Memref.whole cc0_scratch1 : Memref sig .scVector .vmem S256x128 .f32).view.loc (V d (cV L) (jV L)) ↦{fullShare} f : sProp 𝕄) = (V d (cV L) (jV L)).loc cc0_scratch1 ↦{fullShare} f := rfl

/-! ### The values -/

/-- The two rows of the list the tile fetches. -/
abbrev listK : S2x128.Idx → BitVec 32 := fun x => fi d ((irowK L).emb x)

/-- A word of row `k` of the fetched list. -/
theorem emb_sRow (o : Fin 2 → ℕ) (ho : ∀ a, o a + S1x128.size a ≤ S2x128.size a) (x : S128.Idx) :
    ((sRow o ho).view.emb x 0 : ℕ) = o 0 ∧ ((sRow o ho).view.emb x 1 : ℕ) = o 1 + (x 0).val := by
  have e : Shape.reshapeEquiv (s := S1x128) (s' := S128) rfl x = (ix2 (0 : Fin 1) (x 0 : Fin 128) : S1x128.Idx) :=
    Shape.reshapeEquiv_eq_of_rowMajor _ (by
      refine (Shape.rowMajor_val_two (d := ![1, 128]) _).trans ?_
      refine Eq.trans ?_ (Shape.rowMajor_val_one (d := ![128]) x).symm
      show 0 * 128 + (x 0).val = (x 0).val
      omega)
  have h : (sRow o ho).view.emb x = (Rect.unit (s := S2x128) o S1x128.size ho).emb (ix2 (0 : Fin 1) (x 0 : Fin 128) : S1x128.Idx) := by
    show (Rect.unit (s := S2x128) o S1x128.size ho).emb (Shape.reshapeEquiv _ x) = _
    exact congrArg _ e
  rw [h]
  constructor
  · show o 0 + 1 * 0 = o 0; omega
  · show o 1 + 1 * (x 0).val = _; omega

/-- Every word the streams read names a row of the table. -/
theorem inb_sRow (hpre : InRange fi) (o : Fin 2 → ℕ) (ho : ∀ a, o a + S1x128.size a ≤ S2x128.size a)
    (X : Buf (Elt F) ((V d (cV L) (jV L)).loc cc0_scratch0)) (hX : X = listK fi d L) (x : S128.Idx) :
    ((sRow o ho).view.read (Elt F) X x).toNat < S100000x128.size gathers_S100000x128_S128x128.axis := by
  subst hX
  rw [show (sRow o ho).view.read (Elt F) (listK fi d L) x = listK fi d L ((sRow o ho).view.emb x) from (View.read_apply _ _).trans (cast_eq _ _)]
  exact hpre d _

/-- Half `k` of the row buffer, after its gather, holds the gathered rows. -/
theorem half_eq (k : ℕ) (o : Fin 2 → ℕ) (ho : ∀ a, o a + S128x128.size a ≤ S256x128.size a) (ho0 : o 0 = 128 * k) (ho1 : o 1 = 0)
    (o' : Fin 2 → ℕ) (ho' : ∀ a, o' a + S1x128.size a ≤ S2x128.size a) (ho'0 : o' 0 = k) (ho'1 : o' 1 = 0)
    (X : Buf (Elt F) ((V d (cV L) (jV L)).loc cc0_scratch0)) (fr : Buf (Elt F) ((V d (cV L) (jV L)).loc cc0_scratch1))
    (hin : ∀ x, ((sRow o' ho').view.read (Elt F) X x).toNat < S100000x128.size gathers_S100000x128_S128x128.axis)
    (y : S256x128.Idx) (hy : y ∈ (rHalf o ho).view.set) :
    (rHalf o ho).view.write (Elt F) fr (gatherPayload gathers_S100000x128_S128x128 (tAll.view.read (Elt F) (ft d))
        (rows ((sRow o' ho').view.read (Elt F) X) rfl hin)) Finset.univ y
      = gathered (n := 2) (R := 256) rfl X (ft d) y := by
  obtain ⟨x, -, rfl⟩ := Finset.mem_map.mp hy
  rw [View.write_emb_of_mem _ _ (Finset.mem_univ _), cast_eq]
  unfold gatherPayload
  rw [View.read_apply, cast_eq]
  have hx := idx2_lt0 x
  have e0 : ((rHalf o ho).view.emb x 0 : ℕ) = 128 * k + (x 0).val := by
    show o 0 + 1 * (x 0).val = _; omega
  have e1 : ((rHalf o ho).view.emb x 1 : ℕ) = (x 1).val := by
    show o 1 + 1 * (x 1).val = _; omega
  have es := emb_sRow o' ho' (ix1 (x 0))
  refine (gathered_apply (n := 2) (R := 256) rfl X (ft d) _ _ ((sRow o' ho').view.emb (ix1 (x 0))) ?_ ?_ ?_ ?_).symm
  · rw [es.1, e0, ho'0]; omega
  · rw [es.2, e0, ho'1]; show 0 + (x 0).val = _; omega
  · have hr : ∀ n : Fin S128.numel, n.val = (x 0).val → S128.rowMajor.symm n = ix1 (x 0) := fun n hn => by
      apply S128.rowMajor.injective
      rw [Equiv.apply_symm_apply]
      exact Fin.ext (hn.trans (Shape.rowMajor_val_one (d := ![128]) (ix1 (x 0))).symm)
    have hg : (gathers_S100000x128_S128x128.idx (rows ((sRow o' ho').view.read (Elt F) X) rfl hin) x gathers_S100000x128_S128x128.axis).val
        = (X ((sRow o' ho').view.emb (ix1 (x 0)))).toNat := by
      rw [Shape.Gathers.idx_axis]
      show ((sRow o' ho').view.read (Elt F) X _).toNat = _
      exact congrArg BitVec.toNat (((View.read_apply _ _).trans (cast_eq _ _)).trans (congrArg (fun z => X ((sRow o' ho').view.emb z)) (hr _ rfl)))
    show 0 + 1 * _ = _
    rw [Nat.zero_add, Nat.one_mul]; exact hg
  · have hg := Shape.Gathers.idx_of_ne gathers_S100000x128_S128x128 (rows ((sRow o' ho').view.read (Elt F) X) rfl hin) x 1 (by decide)
    show 0 + 1 * _ = _
    rw [Nat.zero_add, Nat.one_mul, e1]; exact hg

/-- The tile's block of the result, written out, holds the gathered rows. -/
theorem block_eq (fo' : Buf (Elt F) (oLoc d)) (hpre : InRange fi) (pay : S256x128.Idx → Elt F .f32)
    (hpay : pay = gathered (n := 2) (R := 256) rfl (listK fi d L) (ft d)) (y : S8192x128.Idx) (hy : y ∈ (oRowK L).view.set) :
    (oRowK L).view.writes (Elt F) fo' [⟨Rect.whole S256x128, pay⟩] y = rowsOf fi ft d y := by
  obtain ⟨x, -, rfl⟩ := Finset.mem_map.mp hy
  have hr := View.read_writes_cons_emb (v := (oRowK L).view) (f := fo') (Val := Elt F) (Rect.whole S256x128) pay [] x
  rw [Rect.emb_whole_apply, View.read_apply, cast_eq] at hr
  rw [hr, hpay]
  have hx := idx2_lt0 x
  have hw : (wL L).val < 32 := (wL L).isLt
  have eo : (k0_off2 L) 0 = 512 * (L 1).val + 256 * (L 0).val ∧ (k0_off2 L) 1 = 0 := by rw [k0_off2_eq]; exact ⟨rfl, rfl⟩
  have ei : (k0_off1 L) 0 = 4 * (L 1).val + 2 * (L 0).val ∧ (k0_off1 L) 1 = 0 := by rw [k0_off1_eq]; exact ⟨rfl, rfl⟩
  have e0 : ((oRowK L).view.emb x 0 : ℕ) = 512 * (L 1).val + 256 * (L 0).val + (x 0).val := by
    show (k0_off2 L) 0 + 1 * (x 0).val = _; omega
  have e1 : ((oRowK L).view.emb x 1 : ℕ) = (x 1).val := by
    show (k0_off2 L) 1 + 1 * (x 1).val = _; omega
  set l : S2x128.Idx := ix2 ⟨(x 0).val / 128, by omega⟩ ⟨(x 0).val % 128, Nat.mod_lt _ (by decide)⟩ with hl
  have hlt : (listK fi d L l).toNat < 100000 := hpre d _
  rw [gathered_apply (n := 2) (R := 256) rfl (listK fi d L) (ft d) x (ix2 ⟨(listK fi d L l).toNat, hlt⟩ (x 1)) l rfl rfl rfl rfl]
  refine (gathered_apply (n := 64) (R := 8192) rfl (fi d) (ft d) _ _ ((irowK L).emb l) ?_ ?_ rfl e1.symm).symm
  · rw [e0]; show (k0_off1 L) 0 + 1 * ((x 0).val / 128) = _; omega
  · rw [e0]; show (k0_off1 L) 1 + 1 * ((x 0).val % 128) = _; omega

/-! ### The resources -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

/-- The three semaphores the tile waits on, each at zero, and the rest of its own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  have hA : cAcell d (cV L) (jV L) ∈ ownCells (V d (cV L) (jV L)) := mem_ownCells.mpr ⟨rfl, by
    show (SemLoc.dma cc0_scoped0.sem : SemLoc sig).isScoped .scVector = true; decide⟩
  have hB : cBcell d (cV L) (jV L) ∈ ownCells (V d (cV L) (jV L)) := mem_ownCells.mpr ⟨rfl, by
    show (SemLoc.dma cc0_scratch2.sem : SemLoc sig).isScoped .scVector = true; decide⟩
  have hC : cCcell d (cV L) (jV L) ∈ ownCells (V d (cV L) (jV L)) := mem_ownCells.mpr ⟨rfl, by
    show (SemLoc.dma cc0_scoped1.sem : SemLoc sig).isScoped .scVector = true; decide⟩
  have hBA : cBcell d (cV L) (jV L) ≠ cAcell d (cV L) (jV L) := by simp [cAcell, cBcell]; decide
  have hCA : cCcell d (cV L) (jV L) ≠ cAcell d (cV L) (jV L) := by simp [cAcell, cCcell]; decide
  have hCB : cCcell d (cV L) (jV L) ≠ cBcell d (cV L) (jV L) := by simp [cBcell, cCcell]; decide
  unfold SparseCore.Cfg.ownSems0
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

/-- The tile's two scratch buffers, each at some contents, and the rest of its own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have hne : (cc0_scratch1 : Ref sig .scVector) ≠ cc0_scratch0 := by decide
  have h0 : (Proc.scVector (cV L) (jV L)).devRef cc0_scratch0 ∈ ownRefs (τ := τ) (Proc.scVector (cV L) (jV L)) :=
    SparseCore.Cfg.mem_ownRefs_of_owner (p := Proc.scVector (cV L) (jV L)) rfl
  have h1 : (Proc.scVector (cV L) (jV L)).devRef cc0_scratch1 ∈ ownRefs (τ := τ) (Proc.scVector (cV L) (jV L)) :=
    SparseCore.Cfg.mem_ownRefs_of_owner (p := Proc.scVector (cV L) (jV L)) rfl
  unfold SparseCore.Cfg.ownBufs
  refine (SparseCore.bigSep_erase' h0).trans ?_
  rw [SparseCore.bigSep_erase' (Finset.mem_erase.mpr ⟨fun e => absurd (Proc.devRef_injective _ e) hne, h1⟩)]

abbrev rA : Memref sig .scVector .vmem S128x128 .f32 := rHalf ![0, 0] inb_S256x128_S128x128_0_0
abbrev rB : Memref sig .scVector .vmem S128x128 .f32 := rHalf ![128, 0] inb_S256x128_S128x128_128_0
abbrev sA : Memref sig .scVector .vmem S128 .i32 := sRow ![0, 0] inb_S2x128_S1x128_0_0
abbrev sB : Memref sig .scVector .vmem S128 .i32 := sRow ![1, 0] inb_S2x128_S1x128_1_0

theorem set_rHalf (o : Fin 2 → ℕ) (ho : ∀ a, o a + S128x128.size a ≤ S256x128.size a) :
    (rHalf o ho).view.set = (Rect.unit (s := S256x128) o S128x128.size ho).set := by
  show ((View.whole (cc0_scratch1 : Ref sig .scVector)).slice (Rect.unit (s := S256x128) o S128x128.size ho)).set = _
  rw [View.set_slice]; exact Finset.map_refl

/-- The two halves of the row buffer are disjoint, and all of it. -/
theorem halves_disjoint : Disjoint (rA).view.set (rB).view.set := by
  rw [set_rHalf, set_rHalf]
  exact Rect.unit_disjoint (0 : Fin 2) (Or.inl (by decide))
theorem halves_cover : (rA).view.set ∪ (rB).view.set = Finset.univ := by
  rw [set_rHalf, set_rHalf]
  refine Finset.eq_univ_iff_forall.mpr fun y => Finset.mem_union.mpr ?_
  have h0 := idx2_lt0 y
  have h1 := idx2_lt1 y
  by_cases h : (y 0).val < 128
  · refine Or.inl (Rect.mem_set_unit.mpr fun a => ?_)
    match a with
    | 0 => exact ⟨Nat.zero_le _, by show (y 0).val < 0 + 128; omega⟩
    | 1 => exact ⟨Nat.zero_le _, by show (y 1).val < 0 + 128; omega⟩
  · refine Or.inr (Rect.mem_set_unit.mpr fun a => ?_)
    match a with
    | 0 => exact ⟨by show 128 ≤ (y 0).val; omega, by show (y 0).val < 128 + 128; omega⟩
    | 1 => exact ⟨Nat.zero_le _, by show (y 1).val < 0 + 128; omega⟩

theorem pts_halves (f : Buf (Elt F) ((V d (cV L) (jV L)).loc cc0_scratch1)) :
    ((Memref.whole cc0_scratch1 : Memref sig .scVector .vmem S256x128 .f32).view.loc (V d (cV L) (jV L)) ↦{fullShare} f : sProp 𝕄)
      = iprop(((rA).view.loc (V d (cV L) (jV L)) ↦[(rA).view.set]{fullShare} f) ∗ (rB).view.loc (V d (cV L) (jV L)) ↦[(rB).view.set]{fullShare} f) := by
  have h := pointsTo_union (Ix := HIx 1) (Val := Elt F) (Name := ℕ) (U := UU) (Lvl := ℕ) (ℓ := (Memref.whole cc0_scratch1 : Memref sig .scVector .vmem S256x128 .f32).view.loc (V d (cV L) (jV L))) (q := fullShare) (f := f)
    (I := (rA).view.set) (J := (rB).view.set) halves_disjoint
  rw [show (rA).view.set ∪ (rB).view.set = Finset.univ from halves_cover] at h
  exact Entails.antisymm h.1 h.2

/-- A share of a buffer as two halves of the share, one on a part of the buffer and what is left of it. -/
theorem pts_two {ℓ : Loc nD τ sig} (q : PosShare TreeShare) (f : Buf (Elt F) ℓ) (I J : Finset (Idx ℓ)) :
    (ℓ ↦{q} f : sProp 𝕄) ⊣⊢ iprop(((ℓ ↦[I]{q.left} f) ∗ ℓ ↦[Finset.univ \ I]{q.left} f) ∗ (ℓ ↦[J]{q.right} f) ∗ ℓ ↦[Finset.univ \ J]{q.right} f) := by
  have h := pointsTo_share (Ix := HIx 1) (Val := Elt F) (Name := ℕ) (U := UU) (Lvl := ℕ) (ℓ := ℓ) (I := Finset.univ) (f := f) (PosShare.mem_left_op_right q)
  have hI := pointsTo_split_subset (Ix := HIx 1) (Val := Elt F) (Name := ℕ) (U := UU) (Lvl := ℕ) (ℓ := ℓ) (q := q.left) (f := f) (Finset.subset_univ I)
  have hJ := pointsTo_split_subset (Ix := HIx 1) (Val := Elt F) (Name := ℕ) (U := UU) (Lvl := ℕ) (ℓ := ℓ) (q := q.right) (f := f) (Finset.subset_univ J)
  exact ⟨h.1.trans (BIClass.sep_mono hI.1 hJ.1), (BIClass.sep_mono hI.2 hJ.2).trans h.2⟩

/-- What the fetch lands in the list's scratch. -/
theorem list_eq (fs : Buf (Elt F) ((V d (cV L) (jV L)).loc cc0_scratch0)) (pay : S2x128.Idx → Elt F .i32)
    (hpay : pay = (iRowK L).view.read (Elt F) (fi d)) :
    View.write (Elt F) (Memref.whole cc0_scratch0 : Memref sig .scVector .vmem S2x128 .i32).view fs pay Finset.univ = listK fi d L := by
  subst hpay
  rw [View.write_whole_univ]
  exact funext fun j => (View.read_apply _ _).trans (cast_eq _ _)

/-- One row of a gather is one kibiword on its semaphore's counter. -/
theorem credit_rA : ∀ j : Fin (S128x128.size gathers_S100000x128_S128x128.axis'),
    (rA.slice (S128x128.rowRect gathers_S100000x128_S128x128.axis' j) (S128x128.stride_rowRect gathers_S100000x128_S128x128.axis' j)).view.dmaCredit = 4096 := by
  decide +kernel
theorem credit_rB : ∀ j : Fin (S128x128.size gathers_S100000x128_S128x128.axis'),
    (rB.slice (S128x128.rowRect gathers_S100000x128_S128x128.axis' j) (S128x128.stride_rowRect gathers_S100000x128_S128x128.axis' j)).view.dmaCredit = 4096 := by
  decide +kernel

end Tile

end Cert.KernelIdeal.Tile

end
-- ==== Proof.TileRun.lean ====
/-
  One tile of the SparseCore call, run to its end, and the two obligations of the launch.
-/
module

public import proofs.«01_k».proof.Proof.Tile

@[expose] public section

noncomputable section

namespace Cert.KernelIdeal.Tile

open Cert.KernelIdeal Cert.KernelIdeal.Gen

open Idealize.ShloMosaic Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.ShloMosaic.Transfers (Batch)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.GatherBatch Cert.Vals

variable {F : FTy → Type}

local notation "𝕄" => MT nD τ sig (HIx 1) (Elt F) ℕ UU ℕ

variable [FloatOps F]
variable (fi : (d : Dev nD) → Buf (Elt F) (iLoc d)) (ft : (d : Dev nD) → Buf (Elt F) (tLoc d)) (fo : (d : Dev nD) → Buf (Elt F) (oLoc d))

section Run

variable (d : Dev nD) (L : grid0.Coords)

/-- A return before the rest of a program is the rest. -/
theorem wp_after_ret {α β : Type} (a : α) (k : α → Prog (TpuEff nD τ sig (Elt F) Λ₀ (V d (cV L) (jV L)).2) β) (Q : β → sProp 𝕄) :
    wp frame (wpE (defs₀ (F := F)) 𝒱₀ (V d (cV L) (jV L)) none) Set.univ (k a) Q
      ⊢ wp frame (wpE (defs₀ (F := F)) 𝒱₀ (V d (cV L) (jV L)) none) Set.univ ((Prog.ret a).bind k) Q := .rfl

set_option maxHeartbeats 4000000 in
/-- The tile on vector subcore `(L 0, L 1)` of device `d`: the list fetched, the two gathers started and waited for, the
    rows written out. -/
theorem tile_body (hF : (K (F := F)).Facts) (hpre : InRange fi) (O : CellTallies nD τ sig (HIx 1)) (W : Waits sig (HIx 1)) (hO : ∀ g, O g none = 0) :
    iprop(levAts (K (F := F)).L (K (F := F)).lev ∗ emp ∗ tileIn fi ft fo d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L (Memref.whole main_arg3_scv : Memref sig .scVector .hbm S100000x128 .f32) (Memref.isWhole_whole _) (Memref.whole main_v0_scv : Memref sig .scVector .hbm S64x128 .i32) (Memref.isWhole_whole _) (Memref.whole main_v1_scv : Memref sig .scVector .hbm S8192x128 .f32) (Memref.isWhole_whole _)
            (Memref.whole cc0_scratch0 : Memref sig .scVector .vmem S2x128 .i32) (Memref.isWhole_whole _) (Memref.whole cc0_scratch1 : Memref sig .scVector .vmem S256x128 .f32) (Memref.isWhole_whole _) cc0_scratch2 cc0_scoped0 cc0_scoped1)
          fun _ => iprop(tileOut fi ft d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  have hX := list_eq fi d L fs (tile_body.sl.dma0 fi d L) rfl
  have hinA := inb_sRow fi d L hpre ![0, 0] inb_S2x128_S1x128_0_0 _ hX
  have hinB := inb_sRow fi d L hpre ![1, 0] inb_S2x128_S1x128_1_0 _ hX
  generalize View.write (Elt F) (Memref.whole cc0_scratch0 : Memref sig .scVector .vmem S2x128 .i32).view fs (tile_body.sl.dma0 fi d L) Finset.univ = X at hX hinA hinB
  have ho : 0 < S128x128.size gathers_S100000x128_S128x128.axis' := by decide
  obtain ⟨DA, hDA⟩ : ∃ D, D = rowDone (F := F) (Ix := HIx 1) (Name := ℕ) (U := UU) (Lvl := ℕ) (V d (cV L) (jV L)) tAll rA
    gathers_S100000x128_S128x128 sA rfl ho (tq (wL L)).left fullShare.left (ft d) fr X hinA := ⟨_, rfl⟩
  obtain ⟨DB, hDB⟩ : ∃ D, D = rowDone (F := F) (Ix := HIx 1) (Name := ℕ) (U := UU) (Lvl := ℕ) (V d (cV L) (jV L)) tAll rB
    gathers_S100000x128_S128x128 sB rfl ho (tq (wL L)).right fullShare.right (ft d) fr X hinB := ⟨_, rfl⟩
  have hstA : ∀ i, BI.Storable (upEmb : UEmb _ 𝕄) (DA i) := fun i => by rw [hDA]; exact rowDone_storable _ _ _ _ _ _ _ _ _ _ _ _ _ i
  have hstB : ∀ i, BI.Storable (upEmb : UEmb _ 𝕄) (DB i) := fun i => by rw [hDB]; exact rowDone_storable _ _ _ _ _ _ _ _ _ _ _ _ _ i
  have hst : ∀ t, BI.Storable (upEmb : UEmb _ 𝕄) (both DA DB t) := fun t => both_storable DA DB t
  have halloc := Transfers.batch_alloc' (countersEmb : UEmb Counters 𝕄) (V d (cV L) (jV L)) (sm := .dma cc0_scratch2.sem) (default : HIx 1) 4096 (both DA DB) (E := Set.univ)
  ihave Ht2 := (pts_two (F := F) (tq (wL L)) (ft d) (tAll).view.set (tAll).view.set).1 $$ Ht'
  icases Ht2 with ⟨⟨HtA, HtAr⟩, HtB, HtBr⟩
  ihave Hs2 := (pts_two (F := F) fullShare X (sA).view.set (sB).view.set).1 $$ Hs'
  icases Hs2 with ⟨⟨HsA, HsAr⟩, HsB, HsBr⟩
  ihave Hr2 := (Entails.of_eq (pts_halves (F := F) d L fr)) $$ Hr'
  icases Hr2 with ⟨HrA, HrB⟩
  imod halloc $$ HsemB with HB
  iapply (wp_gatherBatch countersEmb 𝒱₀ (V d (cV L) (jV L)) none (hg := gathers_S100000x128_S128x128) (ho := ho) hinA (default : HIx 1) 4096 credit_rA
    (D := both DA DB) (j := 0) (u := 0) (by decide) (by decide) (fun i => Entails.of_eq ((congrFun hDA i).symm.trans (both_fst DA DB _ i).symm))) $$ [HtA HrA HsA HB]
  · isplitl [HtA]; · iexact HtA
    isplitl [HrA]; · iexact HrA
    isplitl [HsA]; · iexact HsA
    iexact HB
  iintro HB
  sl_exec
  iapply (wp_gatherBatch countersEmb 𝒱₀ (V d (cV L) (jV L)) none (hg := gathers_S100000x128_S128x128) (ho := ho) hinB (default : HIx 1) 4096 credit_rB
    (D := both DA DB) (u := 0) (by decide) (by decide) (fun i => Entails.of_eq ((congrFun hDB i).symm.trans (both_snd DA DB _ i).symm))) $$ [HtB HrB HsB HB]
  · isplitl [HtB]; · iexact HtB
    isplitl [HrB]; · iexact HrB
    isplitl [HsB]; · iexact HsB
    iexact HB
  iintro HB
  sl_exec
  iapply (Transfers.wp_waitBatchMulO countersEmb 𝒱₀ (V d (cV L) (jV L)) none (default : HIx 1) 128 (N := 4096)
    (D := both DA DB) (u := 0) (by decide +kernel) (show 0 + 128 * 4096 ≤ 4096 * (S128x128.size gathers_S100000x128_S128x128.axis' + S128x128.size gathers_S100000x128_S128x128.axis') by decide)) $$ [HB HO]
  · isplitl [HB]; · iexact HB
    isplitl [HO]; · iexact HO
    iapply (Transfers.MayWaits.elim (SemLoc.dma cc0_scratch2.sem)) $$ Hmw
  iintro ⟨HB, HO⟩
  sl_step
  iapply (Transfers.wp_waitBatchAllO countersEmb 𝒱₀ (V d (cV L) (jV L)) none (default : HIx 1) (N := 4096) (J := 128 * 4096)
    (D := both DA DB) (u := 0 + 128 * 4096) (by decide +kernel) (by decide) (show 0 + 128 * 4096 + 128 * 4096 = 4096 * (S128x128.size gathers_S100000x128_S128x128.axis' + S128x128.size gathers_S100000x128_S128x128.axis') by decide)) $$ [HB HO]
  · isplitl [HB]; · iexact HB
    isplitl [HO]; · iexact HO
    iapply (Transfers.MayWaits.elim (SemLoc.dma cc0_scratch2.sem)) $$ Hmw
  iintro ⟨HD, HsemB, HO⟩
  ihave HD2 := (Entails.of_eq (show bigSep Finset.univ (both DA DB) = (iprop(bigSep Finset.univ DA ∗ bigSep Finset.univ DB) : sProp 𝕄) from
    bigSep_both DA DB)) $$ HD
  icases HD2 with ⟨HDA, HDB⟩
  subst hDA hDB
  ihave HJA := (rowsDone_join (F := F) (Ix := HIx 1) (Name := ℕ) (U := UU) (Lvl := ℕ) (V d (cV L) (jV L)) tAll rA
    gathers_S100000x128_S128x128 sA rfl ho (tq (wL L)).left fullShare.left (ft d) fr X hinA) $$ HDA
  ihave HJB := (rowsDone_join (F := F) (Ix := HIx 1) (Name := ℕ) (U := UU) (Lvl := ℕ) (V d (cV L) (jV L)) tAll rB
    gathers_S100000x128_S128x128 sB rfl ho (tq (wL L)).right fullShare.right (ft d) fr X hinB) $$ HDB
  icases HJA with ⟨HrA, HtA, HsA⟩
  icases HJB with ⟨HrB, HtB, HsB⟩
  ihave Ht' := (pts_two (F := F) (tq (wL L)) (ft d) (tAll).view.set (tAll).view.set).2 $$ [HtA HtAr HtB HtBr]
  · isplitl [HtA HtAr]
    · isplitl [HtA]; · iexact HtA
      iexact HtAr
    · isplitl [HtB]; · iexact HtB
      iexact HtBr
  ihave Hs' := (pts_two (F := F) (ℓ := (V d (cV L) (jV L)).loc cc0_scratch0) fullShare X (sA).view.set (sB).view.set).2 $$ [HsA HsAr HsB HsBr]
  · isplitl [HsA HsAr]
    · isplitl [HsA]; · iexact HsA
      iexact HsAr
    · isplitl [HsB]; · iexact HsB
      iexact HsBr
  ihave HrA' := (Entails.of_eq (pointsTo_congr (q := fullShare)
    (half_eq ft d L 0 ![0, 0] inb_S256x128_S128x128_0_0 rfl rfl ![0, 0] inb_S2x128_S1x128_0_0 rfl rfl X fr hinA))) $$ HrA
  ihave HrB' := (Entails.of_eq (pointsTo_congr (q := fullShare)
    (half_eq ft d L 1 ![128, 0] inb_S256x128_S128x128_128_0 rfl rfl ![1, 0] inb_S2x128_S1x128_1_0 rfl rfl X fr hinB))) $$ HrB
  ihave Hr' := (Entails.of_eq (pts_halves (F := F) d L (gathered (n := 2) (R := 256) rfl X (ft d))).symm) $$ [HrA' HrB']
  · isplitl [HrA']; · iexact HrA'
    iexact HrB'
  subst hX
  iapply (wp_after_ret (F := F) (d := d) (L := L))
  sl_exec
  have hpay : tile_body.sl.dma0_1 fi ft d L = gathered (n := 2) (R := 256) rfl (listK fi d L) (ft d) := by
    unfold tile_body.sl.dma0_1
    simp only [Memref.view_whole, View.read_whole]
  sl_step
  isplitl [Hi' Ht' Ho']
  · isplitl [Hi']; · iapply (Entails.of_eq (pts_iRowK (F := F) d L _)); iexact Hi'
    isplitl [Ht']; · iapply (Entails.of_eq (pts_tV (F := F) d L _ _)); iexact Ht'
    iapply (Entails.of_eq (pts_oRowK (F := F) d L _))
    iapply (Entails.of_eq (pointsTo_congr (q := fullShare) (block_eq fi ft d L (fo d) hpre _ hpay)))
    iexact Ho'
  isplitl [Hs' Hr' Hbufs]
  · isplitl [Hs']; · iexists _; iapply (Entails.of_eq (pts_sV (F := F) d L _)); iexact Hs'
    isplitl [Hr']; · iexists _; iapply (Entails.of_eq (pts_rV (F := F) d L _)); iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Run

/-! ## The launch's two obligations -/

/-- The tile numbered by a core and a subcore, as the call's grid names it. -/
def coordsOf (c : Fin (grid0.bound 0)) (s : Fin (grid0.bound 1)) : grid0.Coords :=
  fun | 0 => c | 1 => s | ⟨_ + 2, h⟩ => absurd h (Nat.not_lt.2 (Nat.le_add_left _ _))

theorem task_eq (c : Fin τ.nSC) (s : Fin τ.nSub) :
    defs₀ (F := F) (.scVector c s) 0 ()
      = SparseCore.onTile hcore0 hsub0 (fun c s => cc0_gather_k (coordsOf c s)
          (Memref.whole main_arg3_scv : Memref sig .scVector .hbm S100000x128 .f32) (Memref.isWhole_whole _) (Memref.whole main_v0_scv : Memref sig .scVector .hbm S64x128 .i32) (Memref.isWhole_whole _) (Memref.whole main_v1_scv : Memref sig .scVector .hbm S8192x128 .f32) (Memref.isWhole_whole _)
          (Memref.whole cc0_scratch0 : Memref sig .scVector .vmem S2x128 .i32) (Memref.isWhole_whole _) (Memref.whole cc0_scratch1 : Memref sig .scVector .vmem S256x128 .f32) (Memref.isWhole_whole _) cc0_scratch2 cc0_scoped0 cc0_scoped1) ⟨⟩ c s := rfl

omit [FloatOps F] in
/-- A tile waits on its own semaphores only, which the call allows. -/
theorem own_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine BIClass.sep_mono .rfl (BIClass.sep_mono .rfl (BIClass.sep_mono .rfl ?_))
  iintro ⟨%W', %h, HO⟩
  iexists W'; isplitr
  · ipureintro; exact fun p hp => (h p hp).elim .inl fun h => .inr (.inl h)
  · iexact HO

set_option maxRecDepth 16384 in
/-- Every tile keeps its side of the call. -/
theorem tile_obl (hF : (K (F := F)).Facts) (hpre : InRange fi) : (K (F := F)).TileObl (D (F := F)) 𝒱 (P fi ft fo) v₀ 0 := by
  intro d c i O W hO _ _
  simp only [show (P fi ft fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [task_eq]; simp only [SparseCore.onTile, hci, and_self, ↓reduceDIte]
  exact (tile_body fi ft fo d (coordsOf ⟨_, hci.1⟩ ⟨_, hci.2⟩) hF hpre O W hO).trans (wp_mono frame _ _ fun _ => own_waits)

/-- A SparseCore's part of the call is its sixteen tiles' parts. -/
theorem core_split : (K (F := F)).VecSplit' (P fi ft fo) 0 := by
  intro d c
  show (bigSep Finset.univ fun i : Fin 16 => tileIn fi ft fo d (wid c i)) ⊢ |={Set.univ}=> iprop(
      (bigSep Finset.univ fun i : Fin 16 => tileIn fi ft fo d (wid c i))
      ∗ ((bigSep Finset.univ fun i : Fin 16 => tileOut fi ft d (wid c i)) -∗ bigSep Finset.univ fun i : Fin 16 => tileOut fi ft d (wid c i)))
  iintro H; imodintro
  isplitl [H]; · iexact H
  iintro H; iexact H

end Cert.KernelIdeal.Tile

end
-- ==== Proof.Body.lean ====
/-
  The TensorCore kernel's body, run once on any staging buffers: what its eight stores leave in the result's buffer is
  found by the run (`bodyRun`).
-/
module

public import proofs.«01_k».proof.Proof.Tile
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp

@[expose] public section

set_option maxRecDepth 16384

noncomputable section

namespace Cert.KernelIdeal.Body

open Cert.KernelIdeal Cert.KernelIdeal.Gen

open Idealize.ShloMosaic Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.ShloMosaic.Transfers (Batch)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Tile
open Idealize.ShloMosaic.TcCoe

variable {F : FTy → Type} [FloatOps F]

local notation "𝕄" => MT nD τ sig (HIx 1) (Elt F) ℕ UU ℕ

section Run

variable (c : Dev nD) (i : grid1.Coords)
  (arg1 : Memref sig .tc .smem S16x1 .i32) (harg1 : arg1.IsWhole)
  (arg2 : Memref sig .tc .smem S1 .f32) (harg2 : arg2.IsWhole)
  (arg3 : Memref sig .tc .vmem S8x512x512 .f32) (harg3 : arg3.IsWhole)
  (arg4 : Memref sig .tc .vmem S8x512x128 .f32) (harg4 : arg4.IsWhole)
  (arg5 : Memref sig .tc .vmem S128x384 .f32) (harg5 : arg5.IsWhole)
  (arg6 : Memref sig .tc .vmem S128x384 .f32) (harg6 : arg6.IsWhole)
  (arg7 : Memref sig .tc .vmem S128x128 .f32) (harg7 : arg7.IsWhole)
  (arg8 : Memref sig .tc .vmem S4x128 .f32) (harg8 : arg8.IsWhole)
  (arg9 : Memref sig .tc .vmem S128x1 .f32) (harg9 : arg9.IsWhole)
  (arg10 : Memref sig .tc .vmem S8x512x1 .f32) (harg10 : arg10.IsWhole)
  (x0 : Vec F S16x1 .i32) (x1 : Vec F S1 .f32) (x2 : Vec F S8x512x512 .f32) (x3 : Vec F S8x512x128 .f32) (x4 : Vec F S128x384 .f32) (x5 : Vec F S128x384 .f32) (x6 : Vec F S128x128 .f32) (x7 : Vec F S4x128 .f32) (x8 : Vec F S128x1 .f32)

/-- The nine operands' staging buffers, at their contents. -/
abbrev operands : sProp 𝕄 :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8)

set_option maxHeartbeats 4000000 in
/-- What the body's stores leave in the result's staging buffer, last first, and that the body, from the operands'
    buffers at their contents and the result's at anything, runs to the operands as they were and those stores. -/
def bodyRun : { L : List (View.Piece (Elt F) S8x512x1 .f32) //
    ∀ (E : Set ℕ) (Q : PUnit → sProp 𝕄),
      iprop(operands (F := F) c arg1 arg2 arg3 arg4 arg5 arg6 arg7 arg8 arg9 x0 x1 x2 x3 x4 x5 x6 x7 x8 ∗ (∃ d, owns (c : Thread nD τ) arg10 fullShare d)
          ∗ (iprop(operands (F := F) c arg1 arg2 arg3 arg4 arg5 arg6 arg7 arg8 arg9 x0 x1 x2 x3 x4 x5 x6 x7 x8
              ∗ ∃ f, arg10.view.loc (c : Thread nD τ) ↦[arg10.view.set]{fullShare} arg10.view.writes (Elt F) f L) -∗ Q ⟨⟩))
        ⊢ wp frame (wpE (defs₀ (F := F)) 𝒱₀ c none) E (cc1__ggnn_body i arg1 harg1 arg2 harg2 arg3 harg3 arg4 harg4 arg5 harg5 arg6 harg6 arg7 harg7 arg8 harg8 arg9 harg9 arg10 harg10) Q } := by
  refine ⟨?_, fun E Q => ?run⟩
  case run =>
    simp only [cc1__ggnn_body_eq_skeleton]; unfold cc1__ggnn_body_skel
    simp only [k1_part31_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton]
    simp only [k1_part1_skel, k1_part2_skel, k1_part3_skel, k1_part4_skel, k1_part5_skel, k1_part6_skel, k1_part7_skel, k1_part8_skel, k1_part9_skel, k1_part10_skel, k1_part11_skel, k1_part12_skel, k1_part13_skel, k1_part14_skel, k1_part15_skel, k1_part16_skel, k1_part17_skel, k1_part18_skel, k1_part19_skel, k1_part20_skel, k1_part21_skel, k1_part22_skel, k1_part23_skel, k1_part24_skel, k1_part25_skel, k1_part26_skel, k1_part27_skel, k1_part28_skel, k1_part29_skel, k1_part30_skel, k1_part31_skel]
    unfold operands owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitr [H9]
    swap; · iexists _; iexact H9
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; isplitr; · ipureintro; exact harg9.read_unread _
    iexact H8

end Run

end Cert.KernelIdeal.Body

end
-- ==== Proof.Item.lean ====
/-
  One item of the TensorCore kernel's block, as a function of what the body loads for it: the mask of the item's length,
  the reciprocal degrees, three gated steps and the read-out. The body's eight stores hold these (`bodyRun_pieces`), so
  that it leaves one function of its operands in the result's buffer (`blockOut`, `body_spec`).
-/
module

public import proofs.«01_k».proof.Proof.Body

@[expose] public section

set_option maxRecDepth 16384

noncomputable section

namespace Cert.KernelIdeal.Item

open Cert.KernelIdeal Cert.KernelIdeal.Gen

open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.KernelIdeal.Tile
open Idealize.ShloMosaic.TcCoe

variable {F : FTy → Type} [FloatOps F]

local notation "𝕄" => MT nD τ sig (HIx 1) (Elt F) ℕ UU ℕ

/-- One where the row number is below the item's length, zero elsewhere. -/
def maskOf (n : Elt F .i32) : FVec F S512x1 .f32 :=
  sitofp .f32 (extui 32 (cmpi .slt (iota .tc S512x1 32 [0] iota_S512x1_d0_w32) (broadcast S512x1 n)) natLt_1_32)

/-- The reciprocals of the degrees, the degrees bounded from below. -/
def invOf (a : FVec F S512x512 .f32) : FVec F S512x1 .f32 :=
  divf (broadcast S512x1 (Scalar.ofBits .f32 0x3F800000#32))
    (maximumf (broadcast S512x1 (Scalar.ofBits .f32 0x358637BD#32))
      (shapeCast S512x1 (multiReduction .add [1] S512 a 0x00000000#32 reduces_S512x512_S512 (.inl rfl) rfl)
        shapeCasts_S512_S512x1))

/-- The gate: one half of the hyperbolic tangent of one half, plus one half. -/
def gateOf (x : FVec F S512x128 .f32) : FVec F S512x128 .f32 :=
  addf (mulf (broadcast S512x128 (Scalar.ofBits .f32 0x3F000000#32))
      (tanh (mulf (broadcast S512x128 (Scalar.ofBits .f32 0x3F000000#32)) x)))
    (broadcast S512x128 (Scalar.ofBits .f32 0x3F000000#32))

/-- The state times the three weights laid side by side. -/
def curOf (wm : FVec F S128x384 .bf16) (h : FVec F S512x128 .f32) : FVec F S512x384 .f32 :=
  matmul dot_S512x128_S128x384_S512x384_1_0_0_1_n_n none (truncf .bf16 h bitsLt_bf16_f32) wm
    (constant S512x384 .f32 0x00000000#32)

/-- The messages: the neighbours' mean, plus a bias. -/
def msgOf (bm : FVec F S1x128 .f32) (inv : FVec F S512x1 .f32) (ab : FVec F S512x512 .bf16) (cur : FVec F S512x384 .f32) :
    FVec F S512x128 .f32 :=
  addf (mulf (matmul dot_S512x512_S512x128_S512x128_1_0_0_1_n_n none ab
        (extractStridedSlice S512x128 ![0, 0] cur slices_S512x384_o0_0_S512x128) (constant S512x128 .f32 0x00000000#32))
      (broadcastTo S512x128 inv broadcasts_S512x1_S512x128))
    (broadcastTo S512x128 bm broadcasts_S1x128_S512x128)

/-- The messages times the three weights laid side by side. -/
def mulOf (wz : FVec F S128x384 .bf16) (m : FVec F S512x128 .f32) : FVec F S512x384 .f32 :=
  matmul dot_S512x128_S128x384_S512x384_1_0_0_1_n_n none (truncf .bf16 m bitsLt_bf16_f32) wz
    (constant S512x384 .f32 0x00000000#32)

/-- The update gate. -/
def zOf (bz : FVec F S1x128 .f32) (cur g : FVec F S512x384 .f32) : FVec F S512x128 .f32 :=
  gateOf (addf (addf (extractStridedSlice S512x128 ![0, 0] g slices_S512x384_o0_0_S512x128)
      (extractStridedSlice S512x128 ![0, 128] cur slices_S512x384_o0_128_S512x128))
    (broadcastTo S512x128 bz broadcasts_S1x128_S512x128))

/-- The reset gate. -/
def rOf (br : FVec F S1x128 .f32) (cur g : FVec F S512x384 .f32) : FVec F S512x128 .f32 :=
  gateOf (addf (addf (extractStridedSlice S512x128 ![0, 128] g slices_S512x384_o0_128_S512x128)
      (extractStridedSlice S512x128 ![0, 256] cur slices_S512x384_o0_256_S512x128))
    (broadcastTo S512x128 br broadcasts_S1x128_S512x128))

/-- The candidate, before its hyperbolic tangent. -/
def preOf (uh : FVec F S128x128 .bf16) (bh : FVec F S1x128 .f32) (h : FVec F S512x128 .f32) (r : FVec F S512x128 .f32)
    (g : FVec F S512x384 .f32) : FVec F S512x128 .f32 :=
  addf (addf (extractStridedSlice S512x128 ![0, 256] g slices_S512x384_o0_256_S512x128)
      (matmul dot_S512x128_S128x128_S512x128_1_0_0_1_n_n none (truncf .bf16 (mulf r h) bitsLt_bf16_f32) uh
        (constant S512x128 .f32 0x00000000#32)))
    (broadcastTo S512x128 bh broadcasts_S1x128_S512x128)

/-- The next state: the gate's mixture of the state and the candidate, masked. -/
def mixOf (mask : FVec F S512x1 .f32) (h z p : FVec F S512x128 .f32) : FVec F S512x128 .f32 :=
  mulf (addf (mulf (subf (broadcast S512x128 (Scalar.ofBits .f32 0x3F800000#32)) z) h) (mulf z (tanh p)))
    (broadcastTo S512x128 mask broadcasts_S512x1_S512x128)

/-- One step of the state. -/
def stepOf (wm wz : FVec F S128x384 .bf16) (uh : FVec F S128x128 .bf16) (bm bz br bh : FVec F S1x128 .f32)
    (mask inv : FVec F S512x1 .f32) (ab : FVec F S512x512 .bf16) (h : FVec F S512x128 .f32) : FVec F S512x128 .f32 :=
  mixOf mask h (zOf bz (curOf wm h) (mulOf wz (msgOf bm inv ab (curOf wm h))))
    (preOf uh bh h (rOf br (curOf wm h) (mulOf wz (msgOf bm inv ab (curOf wm h)))) (mulOf wz (msgOf bm inv ab (curOf wm h))))

/-- The read-out of a state. -/
def readOf (wo : FVec F S128x1 .bf16) (bo : Elt F .f32) (h : FVec F S512x128 .f32) : FVec F S512x1 .f32 :=
  addf (matmul dot_S512x128_S128x1_S512x1_1_0_0_1_n_n none (truncf .bf16 h bitsLt_bf16_f32) wo
    (constant S512x1 .f32 0x00000000#32)) (broadcast S512x1 bo)

/-- The masked first state of an item. -/
def initOf (mask : FVec F S512x1 .f32) (h0 : Vec F S1x512x128 .f32) : FVec F S512x128 .f32 :=
  mulf (shapeCast S512x128 h0 shapeCasts_S1x512x128_S512x128) (broadcastTo S512x128 mask broadcasts_S512x1_S512x128)

/-- What one item's store holds: three steps from the masked first state, read out. -/
def itemOf (n : Elt F .i32) (bo : Elt F .f32) (a : Vec F S1x512x512 .f32) (h0 : Vec F S1x512x128 .f32)
    (wm wz : Vec F S128x384 .f32) (uh : Vec F S128x128 .f32) (bm bz br bh : Vec F S1x128 .f32) (wo : Vec F S128x1 .f32) :
    FVec F S1x512x1 .f32 :=
  let step := stepOf (truncf .bf16 (shapeCast S128x384 wm shapeCasts_S128x384_S128x384) bitsLt_bf16_f32)
    (truncf .bf16 (shapeCast S128x384 wz shapeCasts_S128x384_S128x384) bitsLt_bf16_f32)
    (truncf .bf16 uh bitsLt_bf16_f32)
    (shapeCast S1x128 bm shapeCasts_S1x128_S1x128) (shapeCast S1x128 bz shapeCasts_S1x128_S1x128)
    (shapeCast S1x128 br shapeCasts_S1x128_S1x128) (shapeCast S1x128 bh shapeCasts_S1x128_S1x128)
    (maskOf n) (invOf (shapeCast S512x512 a shapeCasts_S1x512x512_S512x512))
    (truncf .bf16 (shapeCast S512x512 a shapeCasts_S1x512x512_S512x512) bitsLt_bf16_f32)
  shapeCast S1x512x1 (readOf (truncf .bf16 wo bitsLt_bf16_f32) bo (step (step (step (initOf (maskOf n) h0)))))
    shapeCasts_S512x1_S1x512x1

/-- The item `k` of a block: the item's function at its length, its adjacency block and its rows. -/
def itemAt (b : Fin 2) (x0 : Vec F S16x1 .i32) (x1 : Vec F S1 .f32) (x2 : Vec F S8x512x512 .f32) (x3 : Vec F S8x512x128 .f32)
    (x4 x5 : Vec F S128x384 .f32) (x6 : Vec F S128x128 .f32) (x7 : Vec F S4x128 .f32) (x8 : Vec F S128x1 .f32) (k : Fin 8) :
    FVec F S1x512x1 .f32 :=
  itemOf (x0 (ix2 ⟨8 * b.val + k.val, by omega⟩ 0)) (x1 (ix1 0)) (fun j => x2 (ix3 k (j 1) (j 2))) (fun j => x3 (ix3 k (j 1) (j 2)))
    x4 x5 x6 (fun j => x7 (ix2 0 (j 1))) (fun j => x7 (ix2 1 (j 1))) (fun j => x7 (ix2 2 (j 1))) (fun j => x7 (ix2 3 (j 1))) x8

/-- What the body leaves in the result's block `b`: item `k`'s function in the block's row `k`. -/
def blockOut (b : Fin 2) (x0 : Vec F S16x1 .i32) (x1 : Vec F S1 .f32) (x2 : Vec F S8x512x512 .f32) (x3 : Vec F S8x512x128 .f32)
    (x4 x5 : Vec F S128x384 .f32) (x6 : Vec F S128x128 .f32) (x7 : Vec F S4x128 .f32) (x8 : Vec F S128x1 .f32) :
    Vec F S8x512x1 .f32 :=
  fun y => itemAt b x0 x1 x2 x3 x4 x5 x6 x7 x8 (y 0) (ix3 0 (y 1) (y 2))

/-- What a load through a unit-stride rectangle reads of a buffer at given contents. -/
theorem readAt_unread {κ : Kind} {sp : Space} {s : Shape} {e : EltTy} (m : Memref sig κ sp s e) (h : m.IsWhole) (x : Vec F s e)
    (off size : Fin s.rank → ℕ) (inb) : View.readAt (Elt F) m.view (Rect.unit (s := s) off size inb).toLoadRect (h.unread x)
      = fun j => x ((Rect.unit (s := s) off size inb).emb j) := by
  funext j
  show View.read (Elt F) m.view (h.unread x) _ = _
  rw [h.read_unread]
  rfl

/-- The whole of an array of two axes, as a rectangle, keeps every index. -/
theorem whole2 {a b : ℕ} (inb) (j : (Rect.unit (s := ⟨2, ![a, b]⟩) ![0, 0] ![a, b] inb).shape.Idx) :
    (Rect.unit (s := ⟨2, ![a, b]⟩) ![0, 0] ![a, b] inb).emb j = j :=
  funext fun d => match d with
    | ⟨0, _⟩ => Fin.ext (by show 0 + 1 * (j 0).val = (j 0).val; omega)
    | ⟨1, _⟩ => Fin.ext (by show 0 + 1 * (j 1).val = (j 1).val; omega)

/-- One row of the four biases. -/
theorem row4 (k : Fin 4) (inb) (j : (Rect.unit (s := S4x128) ![k.val, 0] S1x128.size inb).shape.Idx) :
    (Rect.unit (s := S4x128) ![k.val, 0] S1x128.size inb).emb j = ix2 k (j 1) :=
  funext fun d => match d with
    | ⟨0, _⟩ => Fin.ext (by have : (j 0).val < 1 := (j 0).isLt; show k.val + 1 * (j 0).val = k.val; omega)
    | ⟨1, _⟩ => Fin.ext (by show 0 + 1 * (j 1).val = (j 1).val; omega)

section Pieces

variable (c : Dev nD) (i : grid1.Coords)
  (arg1 : Memref sig .tc .smem S16x1 .i32) (harg1 : arg1.IsWhole)
  (arg2 : Memref sig .tc .smem S1 .f32) (harg2 : arg2.IsWhole)
  (arg3 : Memref sig .tc .vmem S8x512x512 .f32) (harg3 : arg3.IsWhole)
  (arg4 : Memref sig .tc .vmem S8x512x128 .f32) (harg4 : arg4.IsWhole)
  (arg5 : Memref sig .tc .vmem S128x384 .f32) (harg5 : arg5.IsWhole)
  (arg6 : Memref sig .tc .vmem S128x384 .f32) (harg6 : arg6.IsWhole)
  (arg7 : Memref sig .tc .vmem S128x128 .f32) (harg7 : arg7.IsWhole)
  (arg8 : Memref sig .tc .vmem S4x128 .f32) (harg8 : arg8.IsWhole)
  (arg9 : Memref sig .tc .vmem S128x1 .f32) (harg9 : arg9.IsWhole)
  (arg10 : Memref sig .tc .vmem S8x512x1 .f32) (harg10 : arg10.IsWhole)
  (x0 : Vec F S16x1 .i32) (x1 : Vec F S1 .f32) (x2 : Vec F S8x512x512 .f32) (x3 : Vec F S8x512x128 .f32) (x4 : Vec F S128x384 .f32) (x5 : Vec F S128x384 .f32) (x6 : Vec F S128x128 .f32) (x7 : Vec F S4x128 .f32) (x8 : Vec F S128x1 .f32)

/-- What the body's store for one item holds: the item's function of what is loaded for it, the item's own blocks loaded by the
    three given rectangles. -/
def pieceOf (lo : Fin 2 → ℕ) (hlo : ∀ a, lo a + S1x1.size a ≤ S16x1.size a) (oa : Fin 3 → ℕ)
    (hoa : ∀ a, oa a + S1x512x512.size a ≤ S8x512x512.size a) (hoh : ∀ a, oa a + S1x512x128.size a ≤ S8x512x128.size a) :
    FVec F S1x512x1 .f32 :=
  itemOf (View.readAt (Elt F) arg1.view (Rect.unit (s := S16x1) lo S1x1.size hlo).toLoadRect (harg1.unread x0) (Shape.Idx.first (numel1_S1x1 ▸ Nat.one_pos)))
    (View.readAt (Elt F) arg2.view (Rect.unit (s := S1) ![0] S1.size inb_S1_S1_0).toLoadRect (harg2.unread x1) (Shape.Idx.first (numel1_S1 ▸ Nat.one_pos)))
    (View.readAt (Elt F) arg3.view (Rect.unit (s := S8x512x512) oa S1x512x512.size hoa).toLoadRect (harg3.unread x2))
    (View.readAt (Elt F) arg4.view (Rect.unit (s := S8x512x128) oa S1x512x128.size hoh).toLoadRect (harg4.unread x3))
    (View.readAt (Elt F) arg5.view (Rect.unit (s := S128x384) ![0, 0] S128x384.size inb_S128x384_S128x384_0_0).toLoadRect (harg5.unread x4))
    (View.readAt (Elt F) arg6.view (Rect.unit (s := S128x384) ![0, 0] S128x384.size inb_S128x384_S128x384_0_0).toLoadRect (harg6.unread x5))
    (View.readAt (Elt F) arg7.view (Rect.unit (s := S128x128) ![0, 0] S128x128.size inb_S128x128_S128x128_0_0).toLoadRect (harg7.unread x6))
    (View.readAt (Elt F) arg8.view (Rect.unit (s := S4x128) ![0, 0] S1x128.size inb_S4x128_S1x128_0_0).toLoadRect (harg8.unread x7))
    (View.readAt (Elt F) arg8.view (Rect.unit (s := S4x128) ![1, 0] S1x128.size inb_S4x128_S1x128_1_0).toLoadRect (harg8.unread x7))
    (View.readAt (Elt F) arg8.view (Rect.unit (s := S4x128) ![2, 0] S1x128.size inb_S4x128_S1x128_2_0).toLoadRect (harg8.unread x7))
    (View.readAt (Elt F) arg8.view (Rect.unit (s := S4x128) ![3, 0] S1x128.size inb_S4x128_S1x128_3_0).toLoadRect (harg8.unread x7))
    (View.readAt (Elt F) arg9.view (Rect.unit (s := S128x1) ![0, 0] S128x1.size inb_S128x1_S128x1_0_0).toLoadRect (harg9.unread x8))

set_option maxHeartbeats 4000000 in
/-- The body's eight stores, newest first: item `k`'s function in row block `k`. -/
theorem bodyRun_pieces :
    (Body.bodyRun c i arg1 harg1 arg2 harg2 arg3 harg3 arg4 harg4 arg5 harg5 arg6 harg6 arg7 harg7 arg8 harg8 arg9 harg9 arg10 harg10
      x0 x1 x2 x3 x4 x5 x6 x7 x8).1 = [
      ⟨Rect.unit (s := S8x512x1) ![7, 0, 0] S1x512x1.size inb_S8x512x1_S1x512x1_7_0_0,
        pieceOf arg1 harg1 arg2 harg2 arg3 harg3 arg4 harg4 arg5 harg5 arg6 harg6 arg7 harg7 arg8 harg8 arg9 harg9 x0 x1 x2 x3 x4 x5 x6 x7 x8
          (k1_off1 i 7#32) (k1_off1_inb i 7) ![7, 0, 0] inb_S8x512x512_S1x512x512_7_0_0 inb_S8x512x128_S1x512x128_7_0_0⟩,
      ⟨Rect.unit (s := S8x512x1) ![6, 0, 0] S1x512x1.size inb_S8x512x1_S1x512x1_6_0_0,
        pieceOf arg1 harg1 arg2 harg2 arg3 harg3 arg4 harg4 arg5 harg5 arg6 harg6 arg7 harg7 arg8 harg8 arg9 harg9 x0 x1 x2 x3 x4 x5 x6 x7 x8
          (k1_off1 i 6#32) (k1_off1_inb i 6) ![6, 0, 0] inb_S8x512x512_S1x512x512_6_0_0 inb_S8x512x128_S1x512x128_6_0_0⟩,
      ⟨Rect.unit (s := S8x512x1) ![5, 0, 0] S1x512x1.size inb_S8x512x1_S1x512x1_5_0_0,
        pieceOf arg1 harg1 arg2 harg2 arg3 harg3 arg4 harg4 arg5 harg5 arg6 harg6 arg7 harg7 arg8 harg8 arg9 harg9 x0 x1 x2 x3 x4 x5 x6 x7 x8
          (k1_off1 i 5#32) (k1_off1_inb i 5) ![5, 0, 0] inb_S8x512x512_S1x512x512_5_0_0 inb_S8x512x128_S1x512x128_5_0_0⟩,
      ⟨Rect.unit (s := S8x512x1) ![4, 0, 0] S1x512x1.size inb_S8x512x1_S1x512x1_4_0_0,
        pieceOf arg1 harg1 arg2 harg2 arg3 harg3 arg4 harg4 arg5 harg5 arg6 harg6 arg7 harg7 arg8 harg8 arg9 harg9 x0 x1 x2 x3 x4 x5 x6 x7 x8
          (k1_off1 i 4#32) (k1_off1_inb i 4) ![4, 0, 0] inb_S8x512x512_S1x512x512_4_0_0 inb_S8x512x128_S1x512x128_4_0_0⟩,
      ⟨Rect.unit (s := S8x512x1) ![3, 0, 0] S1x512x1.size inb_S8x512x1_S1x512x1_3_0_0,
        pieceOf arg1 harg1 arg2 harg2 arg3 harg3 arg4 harg4 arg5 harg5 arg6 harg6 arg7 harg7 arg8 harg8 arg9 harg9 x0 x1 x2 x3 x4 x5 x6 x7 x8
          (k1_off1 i 3#32) (k1_off1_inb i 3) ![3, 0, 0] inb_S8x512x512_S1x512x512_3_0_0 inb_S8x512x128_S1x512x128_3_0_0⟩,
      ⟨Rect.unit (s := S8x512x1) ![2, 0, 0] S1x512x1.size inb_S8x512x1_S1x512x1_2_0_0,
        pieceOf arg1 harg1 arg2 harg2 arg3 harg3 arg4 harg4 arg5 harg5 arg6 harg6 arg7 harg7 arg8 harg8 arg9 harg9 x0 x1 x2 x3 x4 x5 x6 x7 x8
          (k1_off1 i 2#32) (k1_off1_inb i 2) ![2, 0, 0] inb_S8x512x512_S1x512x512_2_0_0 inb_S8x512x128_S1x512x128_2_0_0⟩,
      ⟨Rect.unit (s := S8x512x1) ![1, 0, 0] S1x512x1.size inb_S8x512x1_S1x512x1_1_0_0,
        pieceOf arg1 harg1 arg2 harg2 arg3 harg3 arg4 harg4 arg5 harg5 arg6 harg6 arg7 harg7 arg8 harg8 arg9 harg9 x0 x1 x2 x3 x4 x5 x6 x7 x8
          (k1_off1 i 1#32) (k1_off1_inb i 1) ![1, 0, 0] inb_S8x512x512_S1x512x512_1_0_0 inb_S8x512x128_S1x512x128_1_0_0⟩,
      ⟨Rect.unit (s := S8x512x1) ![0, 0, 0] S1x512x1.size inb_S8x512x1_S1x512x1_0_0_0,
        pieceOf arg1 harg1 arg2 harg2 arg3 harg3 arg4 harg4 arg5 harg5 arg6 harg6 arg7 harg7 arg8 harg8 arg9 harg9 x0 x1 x2 x3 x4 x5 x6 x7 x8
          (k1_off1 i 0#32) (k1_off1_inb i 0) ![0, 0, 0] inb_S8x512x512_S1x512x512_0_0_0 inb_S8x512x128_S1x512x128_0_0_0⟩] := rfl

/-- That function in plain terms: the operands at the item's places. -/
theorem pieceOf_eq (lo : Fin 2 → ℕ) (hlo : ∀ a, lo a + S1x1.size a ≤ S16x1.size a) (k : Fin 8) (oa : Fin 3 → ℕ)
    (hoa : ∀ a, oa a + S1x512x512.size a ≤ S8x512x512.size a) (hoh : ∀ a, oa a + S1x512x128.size a ≤ S8x512x128.size a)
    (h0 : lo = ![8 * (i 0).val + k.val, 0]) (h1 : oa = ![k.val, 0, 0]) :
    pieceOf arg1 harg1 arg2 harg2 arg3 harg3 arg4 harg4 arg5 harg5 arg6 harg6 arg7 harg7 arg8 harg8 arg9 harg9 x0 x1 x2 x3 x4 x5 x6 x7 x8 lo hlo oa hoa hoh = itemAt (i 0) x0 x1 x2 x3 x4 x5 x6 x7 x8 k := by
  subst h0 h1
  unfold pieceOf itemAt
  simp only [readAt_unread]
  congr 1
  · exact congrArg x0 (funext fun a => match a with | ⟨0, _⟩ => Fin.ext rfl | ⟨1, _⟩ => Fin.ext rfl)
  · exact congrArg x1 (funext fun a => match a with | ⟨0, _⟩ => Fin.ext rfl)
  · exact funext fun j => congrArg x2 (funext fun a => match a with
      | ⟨0, _⟩ => Fin.ext (by have : (j 0).val < 1 := (j 0).isLt; show k.val + 1 * (j 0).val = k.val; omega)
      | ⟨1, _⟩ => Fin.ext (by show 0 + 1 * (j 1).val = (j 1).val; omega)
      | ⟨2, _⟩ => Fin.ext (by show 0 + 1 * (j 2).val = (j 2).val; omega))
  · exact funext fun j => congrArg x3 (funext fun a => match a with
      | ⟨0, _⟩ => Fin.ext (by have : (j 0).val < 1 := (j 0).isLt; show k.val + 1 * (j 0).val = k.val; omega)
      | ⟨1, _⟩ => Fin.ext (by show 0 + 1 * (j 1).val = (j 1).val; omega)
      | ⟨2, _⟩ => Fin.ext (by show 0 + 1 * (j 2).val = (j 2).val; omega))
  · exact funext fun j => congrArg x4 (whole2 _ j)
  · exact funext fun j => congrArg x5 (whole2 _ j)
  · exact funext fun j => congrArg x6 (whole2 _ j)
  · exact funext fun j => congrArg x7 (row4 0 _ j)
  · exact funext fun j => congrArg x7 (row4 1 _ j)
  · exact funext fun j => congrArg x7 (row4 2 _ j)
  · exact funext fun j => congrArg x7 (row4 3 _ j)
  · exact funext fun j => congrArg x8 (whole2 _ j)

/-- The stores cover the block. -/
theorem bodyRun_covers (y : S8x512x1.Idx) :
    ∃ pc ∈ (Body.bodyRun c i arg1 harg1 arg2 harg2 arg3 harg3 arg4 harg4 arg5 harg5 arg6 harg6 arg7 harg7 arg8 harg8 arg9 harg9 arg10 harg10
      x0 x1 x2 x3 x4 x5 x6 x7 x8).1, y ∈ pc.1.set := by
  rw [bodyRun_pieces]
  exact View.cover_of_tiledL (s := S8x512x1) _ S1x512x1.size (by sl_kernel_rfl) y

/-- What the stores leave, read back. -/
theorem bodyRun_read (f : arg10.view.ty.Contents (Elt F)) :
    arg10.view.read (Elt F) (arg10.view.writes (Elt F) f
      (Body.bodyRun c i arg1 harg1 arg2 harg2 arg3 harg3 arg4 harg4 arg5 harg5 arg6 harg6 arg7 harg7 arg8 harg8 arg9 harg9 arg10 harg10
        x0 x1 x2 x3 x4 x5 x6 x7 x8).1) = blockOut (i 0) x0 x1 x2 x3 x4 x5 x6 x7 x8 := by
  funext y
  refine View.read_writes_apply_of_pieces arg10.view f (blockOut (i 0) x0 x1 x2 x3 x4 x5 x6 x7 x8) _ ?_ y
    (bodyRun_covers c i arg1 harg1 arg2 harg2 arg3 harg3 arg4 harg4 arg5 harg5 arg6 harg6 arg7 harg7 arg8 harg8 arg9 harg9 arg10 harg10
      x0 x1 x2 x3 x4 x5 x6 x7 x8 y)
  rw [bodyRun_pieces]
  have key : ∀ (k : Fin 8) (off : Fin 3 → ℕ) (inb) (w : FVec F S1x512x1 .f32), off = ![k.val, 0, 0] →
      w = itemAt (i 0) x0 x1 x2 x3 x4 x5 x6 x7 x8 k → ∀ x : (Rect.unit (s := S8x512x1) off S1x512x1.size inb).shape.Idx,
      w x = blockOut (i 0) x0 x1 x2 x3 x4 x5 x6 x7 x8 ((Rect.unit (s := S8x512x1) off S1x512x1.size inb).emb x) := by
    intro k off inb w ho hw x
    subst ho hw
    have hk : (Rect.unit (s := S8x512x1) ![k.val, 0, 0] S1x512x1.size inb).emb x 0 = k :=
      Fin.ext (by have : (x 0).val < 1 := (x 0).isLt; show k.val + 1 * (x 0).val = k.val; omega)
    unfold blockOut
    rw [hk]
    refine congrArg _ (funext fun a => match a with
      | ⟨0, _⟩ => Fin.ext (by have : (x 0).val < 1 := (x 0).isLt; show (x 0).val = 0; omega)
      | ⟨1, _⟩ => Fin.ext (by show (x 1).val = 0 + 1 * (x 1).val; omega)
      | ⟨2, _⟩ => Fin.ext (by show (x 2).val = 0 + 1 * (x 2).val; omega))
  intro p hp
  simp only [List.mem_cons, List.not_mem_nil, or_false] at hp
  rcases hp with rfl | rfl | rfl | rfl | rfl | rfl | rfl | rfl
  · exact key 7 ![7, 0, 0] inb_S8x512x1_S1x512x1_7_0_0 _ rfl (pieceOf_eq i arg1 harg1 arg2 harg2 arg3 harg3 arg4 harg4 arg5 harg5 arg6 harg6 arg7 harg7 arg8 harg8 arg9 harg9 x0 x1 x2 x3 x4 x5 x6 x7 x8 _ _ 7 _ _ _ (k1_off1_eq i 7) rfl)
  · exact key 6 ![6, 0, 0] inb_S8x512x1_S1x512x1_6_0_0 _ rfl (pieceOf_eq i arg1 harg1 arg2 harg2 arg3 harg3 arg4 harg4 arg5 harg5 arg6 harg6 arg7 harg7 arg8 harg8 arg9 harg9 x0 x1 x2 x3 x4 x5 x6 x7 x8 _ _ 6 _ _ _ (k1_off1_eq i 6) rfl)
  · exact key 5 ![5, 0, 0] inb_S8x512x1_S1x512x1_5_0_0 _ rfl (pieceOf_eq i arg1 harg1 arg2 harg2 arg3 harg3 arg4 harg4 arg5 harg5 arg6 harg6 arg7 harg7 arg8 harg8 arg9 harg9 x0 x1 x2 x3 x4 x5 x6 x7 x8 _ _ 5 _ _ _ (k1_off1_eq i 5) rfl)
  · exact key 4 ![4, 0, 0] inb_S8x512x1_S1x512x1_4_0_0 _ rfl (pieceOf_eq i arg1 harg1 arg2 harg2 arg3 harg3 arg4 harg4 arg5 harg5 arg6 harg6 arg7 harg7 arg8 harg8 arg9 harg9 x0 x1 x2 x3 x4 x5 x6 x7 x8 _ _ 4 _ _ _ (k1_off1_eq i 4) rfl)
  · exact key 3 ![3, 0, 0] inb_S8x512x1_S1x512x1_3_0_0 _ rfl (pieceOf_eq i arg1 harg1 arg2 harg2 arg3 harg3 arg4 harg4 arg5 harg5 arg6 harg6 arg7 harg7 arg8 harg8 arg9 harg9 x0 x1 x2 x3 x4 x5 x6 x7 x8 _ _ 3 _ _ _ (k1_off1_eq i 3) rfl)
  · exact key 2 ![2, 0, 0] inb_S8x512x1_S1x512x1_2_0_0 _ rfl (pieceOf_eq i arg1 harg1 arg2 harg2 arg3 harg3 arg4 harg4 arg5 harg5 arg6 harg6 arg7 harg7 arg8 harg8 arg9 harg9 x0 x1 x2 x3 x4 x5 x6 x7 x8 _ _ 2 _ _ _ (k1_off1_eq i 2) rfl)
  · exact key 1 ![1, 0, 0] inb_S8x512x1_S1x512x1_1_0_0 _ rfl (pieceOf_eq i arg1 harg1 arg2 harg2 arg3 harg3 arg4 harg4 arg5 harg5 arg6 harg6 arg7 harg7 arg8 harg8 arg9 harg9 x0 x1 x2 x3 x4 x5 x6 x7 x8 _ _ 1 _ _ _ (k1_off1_eq i 1) rfl)
  · exact key 0 ![0, 0, 0] inb_S8x512x1_S1x512x1_0_0_0 _ rfl (pieceOf_eq i arg1 harg1 arg2 harg2 arg3 harg3 arg4 harg4 arg5 harg5 arg6 harg6 arg7 harg7 arg8 harg8 arg9 harg9 x0 x1 x2 x3 x4 x5 x6 x7 x8 _ _ 0 _ _ _ (k1_off1_eq i 0) rfl)

/-- The body's run: from the operands' buffers at their contents and the result's at anything, to the operands as they were and
    the block's function in the result's. -/
theorem body_spec (E : Set ℕ) (Q : PUnit → sProp 𝕄) :
    iprop(Body.operands c arg1 arg2 arg3 arg4 arg5 arg6 arg7 arg8 arg9 x0 x1 x2 x3 x4 x5 x6 x7 x8
      ∗ (∃ d, owns (c : Thread nD τ) arg10 fullShare d)
      ∗ ((Body.operands c arg1 arg2 arg3 arg4 arg5 arg6 arg7 arg8 arg9 x0 x1 x2 x3 x4 x5 x6 x7 x8
          ∗ owns (c : Thread nD τ) arg10 fullShare (blockOut (i 0) x0 x1 x2 x3 x4 x5 x6 x7 x8)) -∗ Q ⟨⟩))
      ⊢ wp frame (wpE (Val := Elt F) defs₀ 𝒱₀ (c : Thread nD τ) none) E
        (cc1__ggnn_body (F := F) i arg1 harg1 arg2 harg2 arg3 harg3 arg4 harg4 arg5 harg5 arg6 harg6 arg7 harg7 arg8 harg8 arg9 harg9 arg10 harg10) Q := by
  refine BIBase.Entails.trans ?_ ((Body.bodyRun c i arg1 harg1 arg2 harg2 arg3 harg3 arg4 harg4 arg5 harg5 arg6 harg6 arg7 harg7 arg8 harg8 arg9 harg9
    arg10 harg10 x0 x1 x2 x3 x4 x5 x6 x7 x8).2 E Q)
  iintro ⟨H, Hd, Hk⟩
  isplitl [H]; · iexact H
  isplitl [Hd]; · iexact Hd
  iintro ⟨H, Hf⟩
  icases Hf with ⟨%f, Hf⟩
  iapply Hk
  isplitl [H]; · iexact H
  unfold owns
  iexists _; isplitr
  · ipureintro; exact bodyRun_read c i arg1 harg1 arg2 harg2 arg3 harg3 arg4 harg4 arg5 harg5 arg6 harg6 arg7 harg7 arg8 harg8 arg9 harg9 arg10 harg10
      x0 x1 x2 x3 x4 x5 x6 x7 x8 f
  iexact Hf

end Pieces

end Cert.KernelIdeal.Item
-- ==== Proof.Region.lean ====
/-
  The TensorCore kernel's region inside the launch that also runs the SparseCore: its proof data over any contents of the
  device's buffers, the body's obligation at every grid point, and the region from the arrays held at those contents to the
  arrays held after it, with the bound on what the thread has waited for kept.
-/
module

public import proofs.«01_k».proof.Proof.Item
public import Idealize.ShloMosaic.Lib.Pipeline.RegionArrays
public import Idealize.ShloMosaic.Lib.Pipeline.FrameTail

@[expose] public section

set_option maxRecDepth 16384

noncomputable section

namespace Cert.KernelIdeal.Region

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.KernelIdeal.Tile Cert.KernelIdeal.Item
open Idealize.ShloMosaic.TcCoe

variable {F : FTy → Type} [FloatOps F]

local notation "𝕄" => MT nD τ sig (HIx 1) (Elt F) ℕ UU ℕ

/-- No table is prefetched: the one admissible choice. -/
abbrev adm : (p : Fin 1) → (pcfgs (F := F) p).Adm := fun q => (cfgs q).toPCfg_adm

variable (W : Dev nD → Valuation τ sig (Elt F))

/-- The window's block at a grid point, of the contents the region is entered at. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What the body leaves in the result's staging buffer at a grid point. -/
def outsAt (c : Dev nD) (t : Fin cfg1.N) : Vec F S8x512x1 .f32 :=
  blockOut (grid1.coords t 0) (iblk W c 0 t) (iblk W c 1 t) (iblk W c 2 t) (iblk W c 3 t) (iblk W c 4 t) (iblk W c 5 t) (iblk W c 6 t)
    (iblk W c 7 t) (iblk W c 8 t)

/-- The region's proof data: the arrays as found; each operand's buffer left at its block and the result's at the block's
    function; nothing else in the invariant; nothing owed; what the thread has waited for kept within the calls made. -/
def dat (c : Dev nD) : Dat τ (Elt F) (HIx 1) ℕ UU ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => outsAt W c t
  Φ _ := BI.emp
  q _ := fullShare
  owed _ := 0
  recorded _ := {p | (K (F := F)).lev (T c, p.1) p.2 ≤ 8}

/-- The proof data of the program's pipelines, of which there is one. -/
abbrev pdats : (p : Fin 1) → (c : Dev nD) → Dat τ (Elt F) (HIx 1) ℕ UU ℕ (Pipeline.pin (pcfgs (F := F)) adm p) c :=
  fun _ c => dat W c

theorem A_eq (c : Dev nD) (w : Fin cfg1.W) : (dat W c).A w = W c (Proc.devRef .tc (Pipeline.arrRef spec1 w)) := by
  dsimp only [dat]

theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = iblk W c 3 t := by dsimp only [dat]
theorem after_4 (c : Dev nD) (t : Fin cfg1.N) : (dat W c).after 4 t = iblk W c 4 t := by dsimp only [dat]
theorem after_5 (c : Dev nD) (t : Fin cfg1.N) : (dat W c).after 5 t = iblk W c 5 t := by dsimp only [dat]
theorem after_6 (c : Dev nD) (t : Fin cfg1.N) : (dat W c).after 6 t = iblk W c 6 t := by dsimp only [dat]
theorem after_7 (c : Dev nD) (t : Fin cfg1.N) : (dat W c).after 7 t = iblk W c 7 t := by dsimp only [dat]
theorem after_8 (c : Dev nD) (t : Fin cfg1.N) : (dat W c).after 8 t = iblk W c 8 t := by dsimp only [dat]
theorem after_9 (c : Dev nD) (t : Fin cfg1.N) : (dat W c).after 9 t = outsAt W c t := by dsimp only [dat]

theorem before_0 (c : Dev nD) (t : Fin cfg1.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat W c).before 3 t d = iblk W c 3 t :=
  ((dat W c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat W c).before 4 t d = iblk W c 4 t :=
  ((dat W c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat W c).before 5 t d = iblk W c 5 t :=
  ((dat W c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat W c).before 6 t d = iblk W c 6 t :=
  ((dat W c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat W c).before 7 t d = iblk W c 7 t :=
  ((dat W c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat W c).before 8 t d = iblk W c 8 t :=
  ((dat W c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-- What the body is called with at a grid point, the windows one by one, -/
def bodyPre (c : Dev nD) (t : Fin cfg1.N) : sProp 𝕄 :=
  iprop((dat W c).Φ t.castSucc ∗ (dat W c).owesAt none t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d))
    ∗ (∃ d, owns (c : Thread nD τ) (st1_6 t) fullShare ((dat W c).before 6 t d))
    ∗ (∃ d, owns (c : Thread nD τ) (st1_7 t) fullShare ((dat W c).before 7 t d))
    ∗ (∃ d, owns (c : Thread nD τ) (st1_8 t) fullShare ((dat W c).before 8 t d))
    ∗ (∃ d, owns (c : Thread nD τ) (st1_9 t) fullShare ((dat W c).before 9 t d)))

/-- and what it returns. -/
def bodyPost (c : Dev nD) (t : Fin cfg1.N) : sProp 𝕄 :=
  iprop((dat W c).Φ t.succ ∗ (dat W c).owesAt none t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t)
    ∗ owns (c : Thread nD τ) (st1_5 t) fullShare ((dat W c).after 5 t)
    ∗ owns (c : Thread nD τ) (st1_6 t) fullShare ((dat W c).after 6 t)
    ∗ owns (c : Thread nD τ) (st1_7 t) fullShare ((dat W c).after 7 t)
    ∗ owns (c : Thread nD τ) (st1_8 t) fullShare ((dat W c).after 8 t)
    ∗ owns (c : Thread nD τ) (st1_9 t) fullShare ((dat W c).after 9 t))

set_option maxHeartbeats 1600000 in
/-- The body at any grid point. -/
theorem sound_body (c : Dev nD) (t : Fin cfg1.N) :
    bodyPre W c t ⊢ wp frame (wpE (defs₀ (F := F)) 𝒱₀ (c : Thread nD τ) none) Set.univ (bodyAt1 t) (fun _ => bodyPost W c t) := by
  unfold bodyPre bodyPost bodyAt1
  simp only [before_0, before_1, before_2, before_3, before_4, before_5, before_6, before_7, before_8]
  rw [show (dat W c).Φ t.succ = (dat W c).Φ t.castSucc from rfl,
    show (dat W c).owesAt none t.succ = (dat W c).owesAt none t.castSucc from rfl,
    after_0, after_1, after_2, after_3, after_4, after_5, after_6, after_7, after_8, after_9]
  unfold outsAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_spec c (grid1.coords t) _ _ _ _ _ _ _ _ _ _ _ _ _ _ _ _ _ _ _ _ (iblk W c 0 t) (iblk W c 1 t) (iblk W c 2 t) (iblk W c 3 t) (iblk W c 4 t) (iblk W c 5 t) (iblk W c 6 t) (iblk W c 7 t) (iblk W c 8 t) Set.univ _)
  isplitl [H0 H1 H2 H3 H4 H5 H6 H7 H8]
  · unfold Body.operands
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  unfold Body.operands
  iintro ⟨⟨H0, H1, H2, H3, H4, H5, H6, H7, H8⟩, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point's slots is the body at that point. -/
theorem defs₀_row (t : Fin cfg1.N) :
    defs₀ (F := F) .tc cfg1.body (cfg1.bodyArgs t (cfg1.slots t)) = bodyAt1 t := by
  unfold defs₀; rfl

/-- The body's obligation at every point. -/
theorem body_obligation (c : Dev nD) : BodyObligation (dat W c) (defs₀ (F := F)) 𝒱₀ (none : HIx 1) Set.univ := fun t => by
  rw [bigSep_W1, bigSep_W1, defs₀_row]
  exact triple_restated (sound_body W c t) rfl .rfl fun _ => .rfl

/-- What the thread has waited for is within the first call's stages. -/
def waited (c : Dev nD) : sProp 𝕄 :=
  iprop(∃ Wd, ⌜(K (F := F)).WBelow (T c) Wd 8⌝ ∗ owes (T c) (0 : CellTallies nD τ sig (HIx 1)) Wd)

theorem owesAt_of_waited (c : Dev nD) (t : Fin (cfg1.N + 1)) : waited c ⊢ ((dat W c).owesAt none t : sProp 𝕄) := by
  unfold waited Dat.owesAt Pipeline.owesWithin
  iintro ⟨%Wd, %h, HO⟩
  iexists Wd; isplitr
  · ipureintro; exact fun p hp => Or.inl (h p hp)
  iexact HO

theorem waited_of_owesAt (c : Dev nD) (t : Fin (cfg1.N + 1)) : ((dat W c).owesAt none t : sProp 𝕄) ⊢ waited c := by
  unfold waited Dat.owesAt Pipeline.owesWithin
  iintro ⟨%Wd, %h, HO⟩
  iexists Wd; isplitr
  · ipureintro
    intro p hp
    rcases h hp with h' | ⟨w, s, h'⟩
    · exact h'
    · rw [h']; exact Nat.zero_le _
  iexact HO

/-- The levels let the pipeline wait for its own transfers: they lie at the bottom, and nothing is owed. -/
theorem cut : Pipeline.LevelCut (pcfgs (F := F)) adm (none : HIx 1) ((K (F := F)).L) ((K (F := F)).lev) 0
    (fun _ : Dev nD => (0 : CellTallies nD τ sig (HIx 1))) (fun _ => 0) where
  hι _ _ _ := Finset.mem_univ _
  hιb _ _ _ := le_of_eq rfl
  hD _ _ _ h := absurd h (lt_irrefl _)

/-- The region, from the windows' arrays at the contents it is entered at to the arrays as its last write-back leaves them. -/
def reg : Pipeline.RegionSeg (pcfgs (F := F)) adm (pdats W) (none : HIx 1) (defs₀ (F := F)) 𝒱₀ ((K (F := F)).L) ((K (F := F)).lev) 0 where
  win := (launch1.toP (Val := Elt F)).win.to₀
  block_pos := block_pos1
  stage_whole := stage_whole1
  K := PEmpty
  osem k := k.elim
  ho := Pipeline.OwnSemFacts.none _
  hbody c := (body_obligation W c).loose
  hwaits c := Pipeline.cellsWaits_of_cut (Pipeline.pin (pcfgs (F := F)) adm) (pdats W) none 0 c 0 0 (fun _ => rfl) (cut.hι c) (cut.hιb c) (cut.hD c)
  pre c := iprop((dat W c).arrays ((dat W c).arrAt · 0) ∗ waited c)
  post c := iprop((dat W c).arrays ((dat W c).arrAt · cfg1.N) ∗ waited c)
  X _ := BI.emp
  Y _ := BI.emp
  Z _ := BI.emp
  hentry c := by
    rw [Pipeline.ownSems0_none, Pipeline.prefHeld_of_none _ rfl]
    iintro ⟨⟨Ha, HO⟩, -, -⟩
    imodintro
    isplitl [Ha]; · iexact Ha
    isplitr; · iempintro
    isplitl [HO]; · iapply (owesAt_of_waited W c 0); iexact HO
    isplitr; · iempintro
    iempintro
  hin c := by
    rw [show (pdats W 0 c).Φ 0 = BI.emp from rfl]
    iintro -; iempintro
  hout c := by
    rw [Pipeline.ownSems0_none, show (Pipeline.scopedRest (Pipeline.pin (pcfgs (F := F)) adm 0).spec c : sProp 𝕄) = BI.emp from scopedRest1_eq c]
    iintro -
    isplitr; · iempintro
    isplitr; · iempintro
    iempintro
  hexit c := by
    iintro ⟨Ha, HO, -, -⟩
    imodintro
    isplitl [Ha]; · iexact Ha
    iapply (waited_of_owesAt W c (Fin.last _)); iexact HO

end Cert.KernelIdeal.Region
-- ==== Proof.Main.lean ====
/-
  The whole program's run. `@main` on the TensorCore: the list of row numbers laid out, the SparseCore call (its buffers split
  over the thirty-two tiles and joined again), the host operations that join the weights, the TensorCore kernel's region, and
  the last reshape; `finalV` is what every buffer of the device holds at the end. `run_main`: from any launch whose row numbers
  name rows of the table, the program ends there, with every counter at zero.
-/
module

public import proofs.«01_k».proof.Proof.TileRun
public import proofs.«01_k».proof.Proof.Region
public import Idealize.ShloMosaic.Lib.Pipeline.RegionArraysS

@[expose] public section

set_option maxRecDepth 16384

noncomputable section

namespace Cert.KernelIdeal.Main

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs arrRefs afterRegion)
open Cert.KernelIdeal.Tile Cert.KernelIdeal.Region
open Cert.Vals

variable {F : FTy → Type} [FloatOps F]

local notation "𝕄" => MT nD τ sig (HIx 1) (Elt F) ℕ UU ℕ

/-- The pipeline's rounds among the certificate's ghost state. -/
def EP : Emb (UR sig nD τ) (MT nD τ sig (HIx 1) (Elt F) ℕ UU ℕ) :=
  (Emb.inl : Emb (UR sig nD τ) (UR sig nD τ × Counters)).trans embR
instance : (EP (F := F)).LandsIn (upEmb : UEmb _ (MT nD τ sig (HIx 1) (Elt F) ℕ UU ℕ)) := by unfold EP; infer_instance

/-! ## The lists, the table's shares and the blocks over the thirty-two tiles -/

section Split

/-- The tiles, numbered core by core, are the thirty-two numbers. -/
def widEquiv : Fin 2 × Fin 16 ≃ Fin 32 where
  toFun p := wid p.1 p.2
  invFun w := (⟨w.val % 2, Nat.mod_lt _ (by decide)⟩, ⟨w.val / 2, by omega⟩)
  left_inv p := by
    have h := p.1.isLt
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem bigSep_tiles (Φ : Fin 32 → sProp 𝕄) :
    (bigSep Finset.univ fun c : Fin 2 => bigSep Finset.univ fun i : Fin 16 => Φ (wid c i)) = bigSep Finset.univ Φ := by
  rw [bigSep_univ_equiv widEquiv Φ, bigSep_univ_prod (fun p : Fin 2 × Fin 16 => Φ (widEquiv p))]
  rfl

theorem iRowSet_eq (w : Fin 32) : iRowSet w = (irow w).set := by
  show ((View.whole (main_v0_scv : Ref sig .scVector)).slice (irow w)).set = _
  rw [View.set_slice]; exact Finset.map_refl
theorem oRowSet_eq (w : Fin 32) : oRowSet w = (orow w).set := by
  show ((View.whole (main_v1_scv : Ref sig .scVector)).slice (orow w)).set = _
  rw [View.set_slice]; exact Finset.map_refl

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet
    (fun w _ w' _ h => by rw [iRowSet_eq, iRowSet_eq]; exact Rect.part_disjoint idiv h),
    show (Finset.univ : Finset (Fin 32)).biUnion iRowSet = Finset.univ from
      (Finset.biUnion_congr rfl fun w _ => iRowSet_eq w).trans (Rect.biUnion_part idiv)]
  try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet
    (fun w _ w' _ h => by rw [oRowSet_eq, oRowSet_eq]; exact Rect.part_disjoint odiv h),
    show (Finset.univ : Finset (Fin 32)).biUnion oRowSet = Finset.univ from
      (Finset.biUnion_congr rfl fun w _ => oRowSet_eq w).trans (Rect.biUnion_part odiv)]
  try rfl
theorem tPts_shares (d : Dev nD) (f : Buf (Elt F) (tLoc d)) :
    (tLoc d ↦{fullShare} f : sProp 𝕄) = bigSep Finset.univ fun w : Fin 32 => tLoc d ↦{tq w} f :=
  pointsTo_piecesOf Finset.univ f (by decide) fullShare

variable (fi : (d : Dev nD) → Buf (Elt F) (iLoc d)) (ft : (d : Dev nD) → Buf (Elt F) (tLoc d)) (fo : (d : Dev nD) → Buf (Elt F) (oLoc d))

/-- What the call is given: the list, the table and the result, each whole. -/
theorem st_eq (d : Dev nD) : (bigSep Finset.univ fun c : Fin ((K (F := F)).nCore 0) => (P fi ft fo).st 0 d c)
    = (iprop((iLoc d ↦{fullShare} fi d) ∗ (tLoc d ↦{fullShare} ft d) ∗ oLoc d ↦{fullShare} fo d) : sProp 𝕄) := by
  refine Eq.trans (show _ = bigSep Finset.univ fun c : Fin 2 => bigSep Finset.univ fun i : Fin 16 => tileIn fi ft fo d (wid c i) from rfl) ?_
  rw [bigSep_tiles (fun w => tileIn fi ft fo d w), bigSep_sep', bigSep_sep', iPts_rows, tPts_shares, oPts_rows]
/-- What it gives back: the result at the rows the list names. -/
theorem dn_eq (d : Dev nD) : (bigSep Finset.univ fun c : Fin ((K (F := F)).nCore 0) => (P fi ft fo).dn 0 d c)
    = (iprop((iLoc d ↦{fullShare} fi d) ∗ (tLoc d ↦{fullShare} ft d) ∗ oLoc d ↦{fullShare} rowsOf fi ft d) : sProp 𝕄) := by
  refine Eq.trans (show _ = bigSep Finset.univ fun c : Fin 2 => bigSep Finset.univ fun i : Fin 16 => tileOut fi ft d (wid c i) from rfl) ?_
  rw [bigSep_tiles (fun w => tileOut fi ft d w), bigSep_sep', bigSep_sep', iPts_rows, tPts_shares, oPts_rows]

end Split

/-! ## What the device's buffers hold along the program -/

section Contents

variable (m : (ℓ : Loc nD τ sig) → Buf (Elt F) ℓ)

/-- The host operations before the call, between the call and the region, and after the region. -/
def opsA : List (HloOp τ sig (Elt F)) := [StableHlo.reshape main_arg1 main_v0 (rfl : (.i32 : EltTy) = .i32) shapeCasts_S16x512_S64x128]
def opsB : List (HloOp τ sig (Elt F)) := [
  StableHlo.reshape main_v1 main_v2 (rfl : (.f32 : EltTy) = .f32) shapeCasts_S8192x128_S16x512x128,
  StableHlo.unary main_arg5 main_v3 (broadcastInDim S1x128 ![1] bcast_S128_S1x128_1 : (⟨S128, .f32⟩ : BufTy).Contents (Elt F) → (⟨S1x128, .f32⟩ : BufTy).Contents (Elt F)),
  StableHlo.unary main_arg8 main_v4 (broadcastInDim S1x128 ![1] bcast_S128_S1x128_1 : (⟨S128, .f32⟩ : BufTy).Contents (Elt F) → (⟨S1x128, .f32⟩ : BufTy).Contents (Elt F)),
  StableHlo.unary main_arg11 main_v5 (broadcastInDim S1x128 ![1] bcast_S128_S1x128_1 : (⟨S128, .f32⟩ : BufTy).Contents (Elt F) → (⟨S1x128, .f32⟩ : BufTy).Contents (Elt F)),
  StableHlo.unary main_arg14 main_v6 (broadcastInDim S1x128 ![1] bcast_S128_S1x128_1 : (⟨S128, .f32⟩ : BufTy).Contents (Elt F) → (⟨S1x128, .f32⟩ : BufTy).Contents (Elt F)),
  StableHlo.nary ![main_v3, main_v4, main_v5, main_v6] main_v7 (fun u => (concatenate S4x128 0 [⟨S1x128, (u 0 : (⟨S1x128, .f32⟩ : BufTy).Contents (Elt F))⟩, ⟨S1x128, (u 1 : (⟨S1x128, .f32⟩ : BufTy).Contents (Elt F))⟩, ⟨S1x128, (u 2 : (⟨S1x128, .f32⟩ : BufTy).Contents (Elt F))⟩, ⟨S1x128, (u 3 : (⟨S1x128, .f32⟩ : BufTy).Contents (Elt F))⟩] concatenates_S1x128_S1x128_S1x128_S1x128_S4x128_d0 : (⟨S4x128, .f32⟩ : BufTy).Contents (Elt F))),
  StableHlo.nary ![main_arg4, main_arg7, main_arg10] main_v8 (fun u => (concatenate S128x384 1 [⟨S128x128, (u 0 : (⟨S128x128, .f32⟩ : BufTy).Contents (Elt F))⟩, ⟨S128x128, (u 1 : (⟨S128x128, .f32⟩ : BufTy).Contents (Elt F))⟩, ⟨S128x128, (u 2 : (⟨S128x128, .f32⟩ : BufTy).Contents (Elt F))⟩] concatenates_S128x128_S128x128_S128x128_S128x384_d1 : (⟨S128x384, .f32⟩ : BufTy).Contents (Elt F))),
  StableHlo.nary ![main_arg6, main_arg9, main_arg12] main_v9 (fun u => (concatenate S128x384 1 [⟨S128x128, (u 0 : (⟨S128x128, .f32⟩ : BufTy).Contents (Elt F))⟩, ⟨S128x128, (u 1 : (⟨S128x128, .f32⟩ : BufTy).Contents (Elt F))⟩, ⟨S128x128, (u 2 : (⟨S128x128, .f32⟩ : BufTy).Contents (Elt F))⟩] concatenates_S128x128_S128x128_S128x128_S128x384_d1 : (⟨S128x384, .f32⟩ : BufTy).Contents (Elt F))),
  StableHlo.reshape main_arg2 main_v10 (rfl : (.i32 : EltTy) = .i32) shapeCasts_S16_S16x1]
def opsC : List (HloOp τ sig (Elt F)) := [StableHlo.reshape main_v11 main_v12 (rfl : (.f32 : EltTy) = .f32) shapeCasts_S16x512x1_S16x512]

/-- The contents before the call, -/
def beforeCall (d : Dev nD) : Valuation τ sig (Elt F) := StableHlo.after opsA (StableHlo.launchContents m d)
abbrev listOf (d : Dev nD) : Buf (Elt F) (iLoc d) := beforeCall m d (Proc.devRef .tc main_v0)
abbrev tableOf (d : Dev nD) : Buf (Elt F) (tLoc d) := beforeCall m d (Proc.devRef .tc main_arg3)
abbrev blankOf (d : Dev nD) : Buf (Elt F) (oLoc d) := beforeCall m d (Proc.devRef .tc main_v1)
/-- after it, -/
def afterCall (d : Dev nD) : Valuation τ sig (Elt F) :=
  Function.update (beforeCall m d) (Proc.devRef .tc main_v1) (rowsOf (listOf m) (tableOf m) d)
/-- at the region's entry, -/
def entryV (d : Dev nD) : Valuation τ sig (Elt F) := StableHlo.after opsB (afterCall m d)
/-- after the region, -/
def exitV (d : Dev nD) : Valuation τ sig (Elt F) := afterRegion (dat (entryV m) d) (entryV m d)
/-- and at the end. -/
def finalV (d : Dev nD) : Valuation τ sig (Elt F) := StableHlo.after opsC (exitV m d)

end Contents

theorem main_eq (d : Dev nD) : main (F := F) d = (do
    StableHlo.seq opsA
    sc.run d 0
    StableHlo.seq opsB
    Prog.lift (.customCall (SparseCore.inner (Pipeline.entry 0)) ())
    StableHlo.seq opsC) := rfl

/-! ## The three kinds of step of `@main` -/

section Steps

variable (m : (ℓ : Loc nD τ sig) → Buf (Elt F) ℓ) (ρ : Dev nD → PrngReg)

theorem sub_opsA : ∀ op ∈ opsA (F := F), op.bufs ⊆ ucRefs τ sig := by
  intro op h; simp only [opsA, List.mem_cons, List.not_mem_nil, or_false] at h
  subst h; exact Pipeline.sub_ucRefs _ (StableHlo.reshape_bufs_sub ..)
theorem sub_opsB : ∀ op ∈ opsB (F := F), op.bufs ⊆ ucRefs τ sig := by
  intro op h; simp only [opsB, List.mem_cons, List.not_mem_nil, or_false] at h
  rcases h with rfl | rfl | rfl | rfl | rfl | rfl | rfl | rfl | rfl <;> apply Pipeline.sub_ucRefs
  · exact StableHlo.reshape_bufs_sub ..
  · exact StableHlo.unary_bufs_sub ..
  · exact StableHlo.unary_bufs_sub ..
  · exact StableHlo.unary_bufs_sub ..
  · exact StableHlo.unary_bufs_sub ..
  · exact StableHlo.nary_bufs_sub ..
  · exact StableHlo.nary_bufs_sub ..
  · exact StableHlo.nary_bufs_sub ..
  · exact StableHlo.reshape_bufs_sub ..
theorem sub_opsC : ∀ op ∈ opsC (F := F), op.bufs ⊆ ucRefs τ sig := by
  intro op h; simp only [opsC, List.mem_cons, List.not_mem_nil, or_false] at h
  subst h; exact Pipeline.sub_ucRefs _ (StableHlo.reshape_bufs_sub ..)
theorem fresh_opsA : ∀ op ∈ opsA (F := F), op.fresh = ∅ := by
  intro op h; simp only [opsA, List.mem_cons, List.not_mem_nil, or_false] at h
  subst h; rfl
theorem fresh_opsB : ∀ op ∈ opsB (F := F), op.fresh = ∅ := by
  intro op h; simp only [opsB, List.mem_cons, List.not_mem_nil, or_false] at h
  rcases h with rfl | rfl | rfl | rfl | rfl | rfl | rfl | rfl | rfl <;> rfl
theorem fresh_opsC : ∀ op ∈ opsC (F := F), op.fresh = ∅ := by
  intro op h; simp only [opsC, List.mem_cons, List.not_mem_nil, or_false] at h
  subst h; rfl

/-- Host operations in a row, on the device's buffers. -/
theorem wp_ops (d : Dev nD) (ops : List (HloOp τ sig (Elt F))) (hS : ∀ op ∈ ops, op.bufs ⊆ ucRefs τ sig) (hf : ∀ op ∈ ops, op.fresh = ∅)
    (W : Valuation τ sig (Elt F)) (Φ : PUnit → sProp 𝕄) :
    iprop((boundary (T d) ∗ StableHlo.held (T d) (ucRefs τ sig) W)
        ∗ ((boundary (T d) ∗ StableHlo.held (T d) (ucRefs τ sig) (StableHlo.after ops W)) -∗ Φ ⟨⟩))
      ⊢ wp frame (wpE ((K (F := F)).defs (D (F := F))) 𝒱 (T d) none) Set.univ (StableHlo.seq ops) Φ := by
  have h := StableHlo.wp_seq (defs := (K (F := F)).defs (D (F := F))) 𝒱 none Set.univ d (ucRefs τ sig) (fun u => Prog.ret u) (K := Φ) ops hS hf W
  rw [show (StableHlo.seq ops >>= fun u => Prog.ret u) = StableHlo.seq ops from bind_pure _] at h
  iintro ⟨Hb, Hk⟩
  iapply h $$ Hb
  iintro Hb
  rw [wp_ret]
  imodintro
  iapply Hk; iexact Hb

/-- The list, the table and the result of the call among the device's buffers. -/
abbrev callRefs : Finset (DevRef τ sig) := {Proc.devRef .tc main_v0, Proc.devRef .tc main_arg3, Proc.devRef .tc main_v1}

theorem callRefs_sub : callRefs ⊆ ucRefs τ sig := by
  intro b hb
  simp only [Finset.mem_insert, Finset.mem_singleton] at hb
  rcases hb with rfl | rfl | rfl <;> exact Finset.mem_filter.mpr ⟨StableHlo.devRef_mem_tcRefs _, by decide⟩

theorem held_call (d : Dev nD) (W : Valuation τ sig (Elt F)) :
    (StableHlo.held (T d) callRefs W : sProp 𝕄)
      = iprop((iLoc d ↦{fullShare} W (Proc.devRef .tc main_v0)) ∗ (tLoc d ↦{fullShare} W (Proc.devRef .tc main_arg3))
          ∗ oLoc d ↦{fullShare} W (Proc.devRef .tc main_v1)) := by
  unfold StableHlo.held callRefs
  rw [SparseCore.bigSep_insert' (by decide), SparseCore.bigSep_insert' (by decide), bigSep_singleton]

theorem afterCall_off (d : Dev nD) (b : DevRef τ sig) (hb : b ∉ callRefs) : afterCall m d b = beforeCall m d b :=
  Function.update_of_ne (fun e => hb (by rw [e]; simp)) _ _

/-- The SparseCore call: the device's buffers as it finds them, then with the result at the rows the list names. -/
theorem wp_call (κ : GSem nD τ sig → ℕ) (d : Dev nD) (Φ : PUnit → sProp 𝕄) :
    iprop((K (F := F)).ctx EH (P (listOf m) (tableOf m) (blankOf m)) κ ∗ (K (F := F)).tcSt EH d 0
        ∗ StableHlo.held (T d) (ucRefs τ sig) (beforeCall m d)
        ∗ (((K (F := F)).tcSt EH d 1 ∗ StableHlo.held (T d) (ucRefs τ sig) (afterCall m d)) -∗ Φ ⟨⟩))
      ⊢ wp frame (wpE ((K (F := F)).defs (D (F := F))) 𝒱 (T d) none) Set.univ ((K (F := F)).run d 0) Φ := by
  rw [StableHlo.held_sub_split (T d) callRefs_sub (beforeCall m d), StableHlo.held_sub_split (T d) callRefs_sub (afterCall m d),
    StableHlo.held_congr (T d) (S := ucRefs τ sig \ callRefs) (V := afterCall m d) (V' := beforeCall m d)
      (fun b hb => afterCall_off m d b (Finset.mem_sdiff.mp hb).2),
    held_call, held_call,
    show afterCall m d (Proc.devRef .tc main_v0) = listOf m d from Function.update_of_ne (by decide) _ _,
    show afterCall m d (Proc.devRef .tc main_arg3) = tableOf m d from Function.update_of_ne (by decide) _ _,
    show afterCall m d (Proc.devRef .tc main_v1) = rowsOf (listOf m) (tableOf m) d from Function.update_self _ _ _]
  iintro ⟨#Hctx, Hst, ⟨Hcall, Hrest⟩, Hk⟩
  iapply ((K (F := F)).wp_run (D (F := F)) 𝒱 (EH := EH) (P := P (listOf m) (tableOf m) (blankOf m)) κ d 0)
  isplitr; · iexact Hctx
  isplitl [Hst]; · iexact Hst
  isplitl [Hcall]; · rw [st_eq]; iexact Hcall
  iintro ⟨Hst, Hdn⟩
  ihave Hdn := (Entails.of_eq (dn_eq (listOf m) (tableOf m) (blankOf m) d)) $$ Hdn
  iapply Hk
  isplitl [Hst]; · iexact Hst
  isplitl [Hdn]; · iexact Hdn
  iexact Hrest

/-- The pipeline's ghost state on a device. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

theorem pinj : Function.Injective (Pipeline.cellOf (nD := nD) (τ := τ) (Pipeline.pin (pcfgs (F := F)) adm)) := cellOf_inj

/-- After the one call, the TensorCore owes nothing, and keeps the rest of its handshake state. -/
theorem tcSt_split (d : Dev nD) : (K (F := F)).tcSt EH d 1 ⊢ (iprop(waited d ∗ (waited d -∗ (K (F := F)).tcSt EH d 1)) : sProp 𝕄) := by
  have e : (iprop(∃ Wd, ⌜(K (F := F)).WBelow (T d) Wd (8 * 1)⌝ ∗ owes (T d) ((K (F := F)).Otc d 1) Wd) : sProp 𝕄) = waited d := by
    unfold waited; rw [(K (F := F)).Otc_end d (le_refl 1)]
  rw [← e]
  unfold SparseCore.Cfg.tcSt
  iintro ⟨Hw, HR⟩
  isplitl [Hw]; · iexact Hw
  iintro Hw
  isplitl [Hw]; · iexact Hw
  iexact HR

variable (W : Dev nD → Valuation τ sig (Elt F))

theorem held_in (d : Dev nD) :
    ((dat W d).arrays ((dat W d).arrAt · 0) : sProp 𝕄) = StableHlo.held (T d) (arrRefs spec1) (W d) :=
  Pipeline.arrays_held (pcfgs (F := F)) adm (pdats W) 0 (launch1.toP (Val := Elt F)) d ((dat W d).share_full fun _ => rfl) _ (W d)
    (fun w => A_eq W d w)
theorem held_out (d : Dev nD) :
    ((dat W d).arrays ((dat W d).arrAt · cfg1.N) : sProp 𝕄) = StableHlo.held (T d) (arrRefs spec1) (afterRegion (dat W d) (W d)) :=
  Pipeline.arrays_held (pcfgs (F := F)) adm (pdats W) 0 (launch1.toP (Val := Elt F)) d ((dat W d).share_full fun _ => rfl) _ (afterRegion (dat W d) (W d))
    (fun w => (Pipeline.afterRegion_arr (dat W d) (W d) (launch1.toP (Val := Elt F)).win.arr_inj w).symm)

theorem arrs_sub : arrRefs (τ := τ) spec1 ⊆ ucRefs τ sig := Pipeline.arrRefs_sub_ucRefs spec1 (by decide)

/-- The call's program is the region's entry, lifted. -/
theorem lift_eq (d : Dev nD) : (SparseCore.liftProg (Q := 1) (.op (.customCall (Pipeline.entry 0) ()) fun u => .ret u) : Prog (TpuEff nD τ sig (Elt F) (SparseCore.Sig (ΛP (F := F)) 1) (SparseCore.T d).2) PUnit)
   = (Prog.lift (.customCall (SparseCore.inner (Pipeline.entry 0)) ())) := rfl

/-- Off the windows' arrays the region leaves the buffers. -/
theorem held_off (d : Dev nD) : (StableHlo.held (T d) (ucRefs τ sig \ arrRefs spec1) (afterRegion (dat W d) (W d)) : sProp 𝕄) = StableHlo.held (T d) (ucRefs τ sig \ arrRefs spec1) (W d) :=
  StableHlo.held_congr (T d) (fun b hb => Pipeline.afterRegion_off (dat W d) (W d) (ucRefs τ sig) b hb)

/-- The region's two ends, as buffers held. -/
theorem pre_eq (d : Dev nD) : (reg W).pre d = (iprop(StableHlo.held (T d) (arrRefs spec1) (W d) ∗ waited d) : sProp 𝕄) := by
  rw [← held_in W d]; rfl
theorem post_eq (d : Dev nD) : (reg W).post d = (iprop(StableHlo.held (T d) (arrRefs spec1) (afterRegion (dat W d) (W d)) ∗ waited d) : sProp 𝕄) := by
  rw [← held_out W d]; rfl

/-- The region, entered in the pipeline's own signature. -/
theorem wp_entry [∀ e, Nonempty (Elt F e)] (d : Dev nD) (Φ : PUnit → sProp 𝕄) :
    iprop(((boundary (T d) ∗ (StableHlo.held (T d) (arrRefs spec1) (afterRegion (dat W d) (W d)) ∗ waited d)) -∗ wp frame (wpE (D (F := F)) 𝒱 (T d) none) Set.univ (.ret ⟨⟩) Φ)
        ∗ boundary (T d) ∗ (StableHlo.held (T d) (arrRefs spec1) (W d) ∗ waited d) ∗ levAts ((K (F := F)).L) ((K (F := F)).lev) ∗ ghost d)
      ⊢ wp frame (wpE (D (F := F)) 𝒱 (T d) none) Set.univ (.op (.customCall (Pipeline.entry 0) ()) fun u => .ret u) Φ := by
  have h := Pipeline.RegionSeg.wp (pcfgs (F := F)) adm (pdats W) (none : HIx 1) pinj EP (defs₀ (F := F)) 𝒱₀ ((K (F := F)).L) ((K (F := F)).lev)
    (reg W) d none (fun _ h => nomatch h) (fun u => .ret u) Φ
  rw [pre_eq, post_eq] at h
  exact h

/-- The TensorCore kernel's region, on the device's buffers. -/
theorem wp_region [∀ e, Nonempty (Elt F e)] (κ : GSem nD τ sig → ℕ) (Pp : (K (F := F)).Pay (nD := nD) (Val := Elt F) (Name := ℕ) (U := UU)) (d : Dev nD) (Φ : PUnit → sProp 𝕄) :
    iprop((K (F := F)).ctx EH Pp κ ∗ (K (F := F)).tcSt EH d 1 ∗ ghost d
        ∗ (boundary (T d) ∗ StableHlo.held (T d) (ucRefs τ sig) (W d))
        ∗ (((K (F := F)).tcSt EH d 1 ∗ boundary (T d) ∗ StableHlo.held (T d) (ucRefs τ sig) (afterRegion (dat W d) (W d))) -∗ Φ ⟨⟩))
      ⊢ wp frame (wpE ((K (F := F)).defs (D (F := F))) 𝒱 (T d) none) Set.univ
          (Prog.lift (.customCall (SparseCore.inner (Pipeline.entry 0)) ())) Φ := by
  rw [← lift_eq d]
  refine BIBase.Entails.trans ?_ ((K (F := F)).wp_liftProg (D (F := F)) 𝒱 (T d) Set.univ none
    (.op (.customCall (Pipeline.entry 0) ()) fun u => .ret u) Φ)
  refine BIBase.Entails.trans ?_ (wp_entry W d Φ)
  rw [StableHlo.held_sub_split (T d) arrs_sub (W d), StableHlo.held_sub_split (T d) arrs_sub (afterRegion (dat W d) (W d)), held_off W d]
  iintro ⟨#Hctx, Hst, Hg, ⟨Hb, Ha, Hrest⟩, Hk⟩
  ihave Hst := (tcSt_split (F := F) d) $$ Hst
  icases Hst with ⟨Hw, HR⟩
  isplitl [HR Hrest Hk]
  · iintro ⟨Hb, Ha, Hw⟩
    rw [wp_ret]; imodintro
    iapply Hk
    isplitl [HR Hw]; · iapply HR; iexact Hw
    isplitl [Hb]; · iexact Hb
    isplitl [Ha]; · iexact Ha
    iexact Hrest
  isplitl [Hb]; · iexact Hb
  isplitl [Ha Hw]
  · isplitl [Ha]; · iexact Ha
    iexact Hw
  isplitr; · iapply (SparseCore.Cfg.ctx_levAts κ); iexact Hctx
  iexact Hg

end Steps

/-! ## The launch -/

section Launch

variable (m : (ℓ : Loc nD τ sig) → Buf (Elt F) ℓ) (ρ : Dev nD → PrngReg)

/-- The certificate's ghost state at the launch: the handshakes' rounds and the pipeline's. -/
def u₀ : UU := (initOf (K (F := F)).hsCells (K (F := F)).hsToks,
  (initOf (Pipeline.cells (Pipeline.pin (pcfgs (F := F)) adm) pinj) (Pipeline.launchToks (Pipeline.pin (pcfgs (F := F)) adm) pinj), 1))

/-- What the handshakes carry in this launch. -/
abbrev PP := P (listOf m) (tableOf m) (blankOf m)

theorem bigSep_none {I : Type} (s : Finset I) : (bigSep s fun _ => iprop(emp)) = (iprop(emp) : sProp 𝕄) := bigSep_emp_const s

/-- The pipeline's rounds out of the pair they are launched in. -/
theorem own_rounds (a : UR sig nD τ) :
    (BI.own ((embR : Emb (UR sig nD τ × Counters) (MT nD τ sig (HIx 1) (Elt F) ℕ UU ℕ)) (a, 1)) : sProp 𝕄) ⊢ BI.own (EP a) :=
  (own_pair_emb embR a (1 : Counters)).trans sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (PP m).x q thr) := by
  have hg : (bigSep Finset.univ fun d : Dev nD => (ghost d : sProp 𝕄))
      = iprop((bigSep Finset.univ fun c : Dev nD => bigSep Finset.univ fun p => Pipeline.cellsGhost (Pipeline.pin (pcfgs (F := F)) adm) EP p c)
          ∗ (bigSep Finset.univ fun c : Dev nD => bigSep Finset.univ fun p => Pipeline.toksInit (Pipeline.pin (pcfgs (F := F)) adm) EP p c)) := by
    rw [bigSep_sep']
    exact congrArg₂ BIBase.sep
      (bigSep_congr fun c _ => (bigSep_univ_of_subsingleton (Φ := fun p => Pipeline.cellsGhost (Pipeline.pin (pcfgs (F := F)) adm) EP p c) (0 : Fin 1)).symm)
      (bigSep_congr fun c _ => (bigSep_univ_of_subsingleton (Φ := fun p => Pipeline.toksInit (Pipeline.pin (pcfgs (F := F)) adm) EP p c) (0 : Fin 1)).symm)
  rw [hg, show (bigSep Finset.univ fun thr : Thread nD τ => bigSep Finset.univ fun q : Fin 1 => (PP m).x q thr)
      = (bigSep Finset.univ fun _ => iprop(emp) : sProp 𝕄) from
    bigSep_congr fun _ _ => bigSep_univ_of_subsingleton (0 : Fin 1), bigSep_none]
  unfold u₀
  iintro Hu
  ihave H := (ownU_pair (initOf (K (F := F)).hsCells (K (F := F)).hsToks) _) $$ Hu
  icases H with ⟨HH, HR⟩
  ihave HP := (own_rounds (initOf (Pipeline.cells (Pipeline.pin (pcfgs (F := F)) adm) pinj) (Pipeline.launchToks (Pipeline.pin (pcfgs (F := F)) adm) pinj))) $$ HR
  imod (Pipeline.fund_ghost (Pipeline.pin (pcfgs (F := F)) adm) (EP (F := F)) pinj) $$ HP with HG
  imodintro
  isplitl [HH]; · iexact HH
  isplitl [HG]; · iexact HG
  iempintro

/-- At the end of `@main` the device's buffers hold `finalV`. -/
abbrev FIN (d : Dev nD) : sProp 𝕄 := StableHlo.held (T d) (ucRefs τ sig) (finalV m d)

/-- The launch deals the device's buffers at the launch contents. -/
theorem launch_held (d : Dev nD) :
    (unscopedBufs d (fun b => m ((SparseCore.T d).loc b)) : sProp 𝕄) = StableHlo.held (T d) (ucRefs τ sig) (StableHlo.launchContents m d) := by
  unfold unscopedBufs StableHlo.held Pipeline.ucRefs StableHlo.tcRefs
  rw [Finset.filter_map, bigSep_map]
  rfl

/-- `@main` on a device's TensorCore. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [launch_held m d, main_eq]
  simp only [wp_bind]
  iintro ⟨#Hctx, Hst, ⟨Hb, Hbufs, Hts, -⟩, HG⟩
  iapply (wp_ops d opsA sub_opsA fresh_opsA (StableHlo.launchContents m d))
  isplitl [Hb Hbufs]
  · isplitl [Hb]; · iexact Hb
    iexact Hbufs
  iintro ⟨Hb, Hbufs⟩
  iapply (wp_call m κ d)
  isplitr; · iexact Hctx
  isplitl [Hst]; · iexact Hst
  isplitl [Hbufs]; · iexact Hbufs
  iintro ⟨Hst, Hbufs⟩
  iapply (wp_ops d opsB sub_opsB fresh_opsB (afterCall m d))
  isplitl [Hb Hbufs]
  · isplitl [Hb]; · iexact Hb
    iexact Hbufs
  iintro ⟨Hb, Hbufs⟩
  iapply (wp_region (entryV m) κ (PP m) d)
  isplitr; · iexact Hctx
  isplitl [Hst]; · iexact Hst
  isplitl [HG]; · iexact HG
  isplitl [Hb Hbufs]
  · isplitl [Hb]; · iexact Hb
    iexact Hbufs
  iintro ⟨Hst, Hb, Hbufs⟩
  iapply (wp_ops d opsC sub_opsC fresh_opsC (exitV m d))
  isplitl [Hb Hbufs]
  · isplitl [Hb]; · iexact Hb
    iexact Hbufs
  iintro ⟨Hb, Hbufs⟩
  isplitl [Hst]; · iexact Hst
  isplitl [Hbufs]; · iexact Hbufs
  isplitl [Hb]; · iexact Hb
  iexact Hts

/-- What is known of the memory where `@main` ends: every buffer of the device's TensorCore outside the kernels' own holds `finalV`. -/
def fq (d : Dev nD) (s' : Phys nD τ sig (Elt F)) : Prop := ∀ b ∈ ucRefs τ sig, s'.mem.mem (d, b) = finalV m d b

theorem hfin (d : Dev nD) (s' : Phys nD τ sig (Elt F)) : iprop(FIN m d ∗ SI s') ⊢ (⌜fq m d s'⌝ : sProp 𝕄) := by
  have one (b : DevRef τ sig) (hb : b ∈ ucRefs τ sig) : iprop(FIN m d ∗ SI s') ⊢ (⌜s'.mem.mem (d, b) = finalV m d b⌝ : sProp 𝕄) := by
    unfold FIN StableHlo.held
    rw [SparseCore.bigSep_erase' hb]
    iintro ⟨⟨Hb, -⟩, HSI⟩
    ihave H := (SI_pointsTo_agree (st := s') (ℓ := (d, b)) (I := Finset.univ) (q := fullShare) (f := finalV m d b)) $$ [HSI Hb]
    · isplitl [HSI]; · iexact HSI
      iexact Hb
    icases H with %h
    ipureintro; exact funext fun i => h i (Finset.mem_univ i)
  unfold fq
  refine BIBase.Entails.trans (forall_intro fun b => ?_) pure_forall.2
  exact BIBase.Entails.trans (forall_intro fun hb => one b hb) pure_forall.2

/-- Every device's buffers at `finalV`, and every counter at zero. -/
def QC : PUnit × MemSt nD τ sig (Elt F) → Prop := fun r =>
  (∀ d : Dev nD, ∀ b ∈ ucRefs τ sig, r.2.mem (d, b) = finalV m d b) ∧ r.2.sem = fun _ => 0

/-- The program's run, from row numbers that name rows of the table. -/
theorem run_main [∀ e, Nonempty (Elt F e)] (hpre : InRange (listOf m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tile_obl (listOf m) (tableOf m) (blankOf m) facts hpre)
    (fun q _ => match q with | 0 => SparseCore.Cfg.VecSplit.of_plain (core_split (listOf m) (tableOf m) (blankOf m)))
    m ρ main (fun d => ghost d) (FIN m) (u₀ (F := F)) (sep_elim_left.trans (hu₀ m)) (hmain m ρ) (fq m) (hfin m) (QC m) (fun _ h hz => ⟨h, hz⟩)

end Launch

end Cert.KernelIdeal.Main
-- ==== Proof.Frames.lean ====
/-
  What the run keeps, and the precondition. `kept_final`: a buffer that no host operation writes, and that is neither the
  SparseCore call's result nor the region's, holds at the end what it held at the launch. `inRange_of_pre`: a list on which
  the stated condition holds names rows of the table. `run_kept`: the run, with every argument kept.
-/
module

public import proofs.«01_k».proof.Defs
public import proofs.«01_k».proof.Proof.Main
public import proofs.«01_k».proof.Proof.Gen.Pre_in_vocab
public import Idealize.ShloMosaic.Lib.ReduceAll

@[expose] public section

set_option maxRecDepth 16384

noncomputable section

namespace Cert.KernelIdeal.Frames

open Cert.KernelIdeal Cert.KernelIdeal.Gen Cert.KernelIdeal.Tile Cert.KernelIdeal.Region Cert.KernelIdeal.Main
open Idealize.ShloMosaic Idealize.SL.Sem
open Idealize.ShloMosaic.Pipeline (afterRegion)

variable {F : FTy → Type} [FloatOps F]

/-- The buffers the program writes outside the two kernels, and the kernels' results. -/
def written : List (Ref sig .tc) :=
  [main_v0, main_v1, main_v2, main_v3, main_v4, main_v5, main_v6, main_v7, main_v8, main_v9, main_v10, main_v11, main_v12]

section Kept

variable (m : (ℓ : Loc nD τ sig) → Buf (Elt F) ℓ) (d : Dev nD) (r : Ref sig .tc)

theorem kept_beforeCall (h : r ∉ [main_v0]) : beforeCall m d (Proc.devRef .tc r) = m (d, Proc.devRef .tc r) :=
  StableHlo.after_of_writes_sub (W := [main_v0]) opsA _ (StableHlo.forall_writes_sub_of_map rfl) h

theorem kept_afterCall (h : r ∉ [main_v0, main_v1]) : afterCall m d (Proc.devRef .tc r) = m (d, Proc.devRef .tc r) := by
  simp only [List.mem_cons, List.not_mem_nil, or_false, not_or] at h
  refine (Function.update_of_ne (fun e => h.2 (Proc.devRef_injective _ e)) _ _).trans ?_
  exact kept_beforeCall m d r (by simpa using h.1)

theorem kept_entry (h : r ∉ written) : entryV m d (Proc.devRef .tc r) = m (d, Proc.devRef .tc r) := by
  simp only [written, List.mem_cons, List.not_mem_nil, or_false, not_or] at h
  refine (StableHlo.after_of_writes_sub (W := [main_v2, main_v3, main_v4, main_v5, main_v6, main_v7, main_v8, main_v9, main_v10])
    opsB _ (StableHlo.forall_writes_sub_of_map rfl) ?_).trans (kept_afterCall m d r ?_)
  · simp only [List.mem_cons, List.not_mem_nil, or_false, not_or]; tauto
  · simp only [List.mem_cons, List.not_mem_nil, or_false, not_or]; tauto

/-- Only the last window is written back. -/
theorem out_window : ∀ w : Fin cfg1.W, (cfg1.win w).isOut = true → Pipeline.arrRef spec1 w = main_v11 := by decide

/-- The region changes its result's array alone. -/
theorem kept_region (W : Dev nD → Valuation τ sig (Elt F)) (h : r ≠ main_v11) :
    afterRegion (dat W d) (W d) (Proc.devRef .tc r) = W d (Proc.devRef .tc r) := by
  by_cases hw : ∃ w : Fin cfg1.W, r = Pipeline.arrRef spec1 w
  · obtain ⟨w, rfl⟩ := hw
    have hin : (cfg1.win w).isOut = false := by
      cases e : (cfg1.win w).isOut with
      | false => rfl
      | true => exact absurd (out_window w e) h
    exact (Pipeline.afterRegion_arr (dat W d) (W d) (launch1.toP (Val := Elt F)).win.arr_inj w).trans (((dat W d).arrAt_in w hin _).trans (A_eq W d w))
  · exact Pipeline.afterRegion_of_not_arr (dat W d) (W d) fun w e => hw ⟨w, e⟩

theorem kept_final (h : r ∉ written) : finalV m d (Proc.devRef .tc r) = m (d, Proc.devRef .tc r) := by
  have h' := h
  simp only [written, List.mem_cons, List.not_mem_nil, or_false, not_or] at h'
  refine (StableHlo.after_of_writes_sub (W := [main_v12]) opsC _ (StableHlo.forall_writes_sub_of_map rfl) (by simpa using h'.2.2.2.2.2.2.2.2.2.2.2.2)).trans ?_
  exact (kept_region d r (entryV m) h'.2.2.2.2.2.2.2.2.2.2.2.1).trans (kept_entry m d r h)

end Kept

/-! ## The precondition -/

/-- A signed word at least 0 and under 100000 is, read unsigned, under 100000. -/
theorem word_in_range (v : BitVec 32) (e : IntOp.andi (IntOp.cmpi .sge v 0#32) (IntOp.cmpi .slt v 100000#32) = 1#1) :
    v.toNat < 100000 := by
  have both : ∀ p q : Bool, IntOp.andi (BitVec.ofBool p) (BitVec.ofBool q) = 1#1 → p = true ∧ q = true := by decide
  obtain ⟨h0, h1⟩ := both _ _ e
  replace h0 : (0#32).sle v = true := h0
  replace h1 : v.slt 100000#32 = true := h1
  rw [BitVec.slt_eq_decide, decide_eq_true_eq] at h1
  rw [BitVec.sle_eq_decide, decide_eq_true_eq] at h0
  simp only [BitVec.toInt_eq_toNat_cond, BitVec.toNat_ofNat, Nat.reducePow, Nat.reduceMod] at h0 h1
  omega

/-- The stated condition, at any instance: every row number is under 100000. -/
theorem list_in_range (a0 a1 a2 a3 a4 a5 a6 a7 a8 a9 a10 a11 a12 a13 a14 a15 a16)
    (h : Cert.Pre_in_vocab.fn (F := F) a0 a1 a2 a3 a4 a5 a6 a7 a8 a9 a10 a11 a12 a13 a14 a15 a16 = fun _ => 1#1)
    (j : S16x512.Idx) : (a1 j).toNat < 100000 :=
  haveI : Subsingleton Cert.Pre_in_vocab.S_.Idx := ⟨fun a b => funext fun i => i.elim0⟩
  word_in_range _ (Host.reduce_andi_all _ _ _ _ (fun i => i.elim0) (congrFun h (fun i => i.elim0)) j)

/-- The list the call reads is the argument's words in the order of the list. -/
theorem listOf_apply (m : (ℓ : Loc nD τ sig) → Buf (Elt F) ℓ) (d : Dev nD) :
    listOf m d = shapeCast S64x128 (m (d, Proc.devRef .tc main_arg1) : S16x512.Idx → BitVec 32) shapeCasts_S16x512_S64x128 := by
  have e := StableHlo.reshape_result' (τ := τ) (x := main_arg1) (y := main_v0) (rfl : (.i32 : EltTy) = .i32) shapeCasts_S16x512_S64x128
    ⟨by decide, rfl⟩ ⟨by decide, rfl⟩ (StableHlo.launchContents m d)
  exact e

theorem inRange_of_pre (m : (ℓ : Loc nD τ sig) → Buf (Elt F) ℓ)
    (h : ∀ d : Dev nD, ∀ j : S16x512.Idx, ((m (d, Proc.devRef .tc main_arg1) : S16x512.Idx → BitVec 32) j).toNat < 100000) :
    InRange (listOf m) := fun d j => by
  rw [listOf_apply]; exact h d _

/-! ## The run -/

/-- How a run from `m` ends: every unwritten buffer kept, the result at `finalV`, every counter at zero. -/
def Kept (m : (ℓ : Loc nD τ sig) → Buf (Elt F) ℓ) (r : PUnit × MemSt nD τ sig (Elt F)) : Prop :=
  (∀ d : Dev nD, (∀ b : Ref sig .tc, b.isScoped = false → b ∉ written → r.2.mem (d, Proc.devRef .tc b) = m (d, Proc.devRef .tc b))
    ∧ r.2.mem (d, Proc.devRef .tc main_v12) = finalV m d (Proc.devRef .tc main_v12))
  ∧ r.2.sem = fun _ => 0

/-- From a launch whose list is in range the program ends so. -/
theorem run_kept [∀ e, Nonempty (Elt F e)] (m : (ℓ : Loc nD τ sig) → Buf (Elt F) ℓ) (ρ : Dev nD → PrngReg)
    (h : ∀ d : Dev nD, ∀ j : S16x512.Idx, ((m (d, Proc.devRef .tc main_arg1) : S16x512.Idx → BitVec 32) j).toNat < 100000) :
    θ_run (Cert.KernelIdeal.defs (F := F)) (Cert.KernelIdeal.threads (F := F)) ⟨m, fun _ => 0, ρ⟩ (Kept m) :=
  (θ_run Cert.KernelIdeal.defs _ _).mono
    (fun r hr => ⟨fun d => ⟨fun b hb hw => (hr.1 d _ (Pipeline.devRef_mem_ucRefs hb)).trans (kept_final m d b hw), hr.1 d _ (Pipeline.devRef_mem_ucRefs rfl)⟩, hr.2⟩)
    (run_main m ρ (inRange_of_pre m h))

end Cert.KernelIdeal.Frames

end
-- ==== Proof.Transfer.lean ====
/-
  The kernel's program and its idealization are one text. Each function of the one is the same function of the other, by
  unfolding, part by part.
-/
module

public import proofs.«01_k».proof.Defs
public import proofs.«01_k».proof.Proof.Gen.KernelIdeal
public import proofs.«01_k».proof.Proof.Gen.Kernel

@[expose] public section

set_option maxRecDepth 65536

noncomputable section

namespace Cert.Transfer

open Idealize.ShloMosaic Idealize.SL.Sem

variable {F : FTy → Type} [FloatOps F]

/-! ## The TensorCore kernel's parts -/

set_option maxHeartbeats 4000000 in
theorem e_p1 : Cert.Kernel.k1_part1 (F := F) = Cert.KernelIdeal.k1_part1 (F := F) := rfl
set_option maxHeartbeats 4000000 in
theorem e_p2 : Cert.Kernel.k1_part2 (F := F) = Cert.KernelIdeal.k1_part2 (F := F) := rfl
set_option maxHeartbeats 4000000 in
theorem e_p3 : Cert.Kernel.k1_part3 (F := F) = Cert.KernelIdeal.k1_part3 (F := F) := rfl
set_option maxHeartbeats 4000000 in
theorem e_p4 : Cert.Kernel.k1_part4 (F := F) = Cert.KernelIdeal.k1_part4 (F := F) := rfl
set_option maxHeartbeats 4000000 in
theorem e_p5 : Cert.Kernel.k1_part5 (F := F) = Cert.KernelIdeal.k1_part5 (F := F) := rfl
set_option maxHeartbeats 4000000 in
theorem e_p6 : Cert.Kernel.k1_part6 (F := F) = Cert.KernelIdeal.k1_part6 (F := F) := rfl
set_option maxHeartbeats 4000000 in
theorem e_p7 : Cert.Kernel.k1_part7 (F := F) = Cert.KernelIdeal.k1_part7 (F := F) := rfl
set_option maxHeartbeats 4000000 in
theorem e_p8 : Cert.Kernel.k1_part8 (F := F) = Cert.KernelIdeal.k1_part8 (F := F) := rfl
set_option maxHeartbeats 4000000 in
theorem e_p9 : Cert.Kernel.k1_part9 (F := F) = Cert.KernelIdeal.k1_part9 (F := F) := rfl
set_option maxHeartbeats 4000000 in
theorem e_p10 : Cert.Kernel.k1_part10 (F := F) = Cert.KernelIdeal.k1_part10 (F := F) := rfl
set_option maxHeartbeats 4000000 in
theorem e_p11 : Cert.Kernel.k1_part11 (F := F) = Cert.KernelIdeal.k1_part11 (F := F) := rfl
set_option maxHeartbeats 4000000 in
theorem e_p12 : Cert.Kernel.k1_part12 (F := F) = Cert.KernelIdeal.k1_part12 (F := F) := rfl
set_option maxHeartbeats 4000000 in
theorem e_p13 : Cert.Kernel.k1_part13 (F := F) = Cert.KernelIdeal.k1_part13 (F := F) := rfl
set_option maxHeartbeats 4000000 in
theorem e_p14 : Cert.Kernel.k1_part14 (F := F) = Cert.KernelIdeal.k1_part14 (F := F) := rfl
set_option maxHeartbeats 4000000 in
theorem e_p15 : Cert.Kernel.k1_part15 (F := F) = Cert.KernelIdeal.k1_part15 (F := F) := rfl
set_option maxHeartbeats 4000000 in
theorem e_p16 : Cert.Kernel.k1_part16 (F := F) = Cert.KernelIdeal.k1_part16 (F := F) := rfl
set_option maxHeartbeats 4000000 in
theorem e_p17 : Cert.Kernel.k1_part17 (F := F) = Cert.KernelIdeal.k1_part17 (F := F) := rfl
set_option maxHeartbeats 4000000 in
theorem e_p18 : Cert.Kernel.k1_part18 (F := F) = Cert.KernelIdeal.k1_part18 (F := F) := rfl
set_option maxHeartbeats 4000000 in
theorem e_p19 : Cert.Kernel.k1_part19 (F := F) = Cert.KernelIdeal.k1_part19 (F := F) := rfl
set_option maxHeartbeats 4000000 in
theorem e_p20 : Cert.Kernel.k1_part20 (F := F) = Cert.KernelIdeal.k1_part20 (F := F) := rfl
set_option maxHeartbeats 4000000 in
theorem e_p21 : Cert.Kernel.k1_part21 (F := F) = Cert.KernelIdeal.k1_part21 (F := F) := rfl
set_option maxHeartbeats 4000000 in
theorem e_p22 : Cert.Kernel.k1_part22 (F := F) = Cert.KernelIdeal.k1_part22 (F := F) := rfl
set_option maxHeartbeats 4000000 in
theorem e_p23 : Cert.Kernel.k1_part23 (F := F) = Cert.KernelIdeal.k1_part23 (F := F) := rfl
set_option maxHeartbeats 4000000 in
theorem e_p24 : Cert.Kernel.k1_part24 (F := F) = Cert.KernelIdeal.k1_part24 (F := F) := rfl
set_option maxHeartbeats 4000000 in
theorem e_p25 : Cert.Kernel.k1_part25 (F := F) = Cert.KernelIdeal.k1_part25 (F := F) := rfl
set_option maxHeartbeats 4000000 in
theorem e_p26 : Cert.Kernel.k1_part26 (F := F) = Cert.KernelIdeal.k1_part26 (F := F) := rfl
set_option maxHeartbeats 4000000 in
theorem e_p27 : Cert.Kernel.k1_part27 (F := F) = Cert.KernelIdeal.k1_part27 (F := F) := rfl
set_option maxHeartbeats 4000000 in
theorem e_p28 : Cert.Kernel.k1_part28 (F := F) = Cert.KernelIdeal.k1_part28 (F := F) := rfl
set_option maxHeartbeats 4000000 in
theorem e_p29 : Cert.Kernel.k1_part29 (F := F) = Cert.KernelIdeal.k1_part29 (F := F) := rfl
set_option maxHeartbeats 4000000 in
theorem e_p30 : Cert.Kernel.k1_part30 (F := F) = Cert.KernelIdeal.k1_part30 (F := F) := rfl
set_option maxHeartbeats 4000000 in
theorem e_p31 : Cert.Kernel.k1_part31 (F := F) = Cert.KernelIdeal.k1_part31 (F := F) := rfl

set_option maxHeartbeats 40000000 in
/-- The TensorCore kernel's function. -/
theorem e_body : Cert.Kernel.cc1__ggnn_body (F := F) = Cert.KernelIdeal.cc1__ggnn_body (F := F) := rfl
set_option maxHeartbeats 4000000 in
/-- The entry function. -/
theorem e_main : Cert.Kernel.main (F := F) = Cert.KernelIdeal.main (F := F) := rfl
set_option maxHeartbeats 4000000 in
/-- The SparseCore kernel's function. -/
theorem e_gather : Cert.Kernel.cc0_gather_k (F := F) = Cert.KernelIdeal.cc0_gather_k (F := F) := rfl

end Cert.Transfer

end
-- ==== Proof.TransferRun.lean ====
/-
  The kernel and its idealization have the same tables of bodies and the same threads, so a run of the one is a run of the
  other (`run_of_run`).
-/
module

public import proofs.«01_k».proof.Defs
public import proofs.«01_k».proof.Proof.Transfer

@[expose] public section

set_option maxRecDepth 65536

noncomputable section

namespace Cert.Transfer

open Idealize.ShloMosaic Idealize.SL.Sem

variable {F : FTy → Type} [FloatOps F]

set_option maxHeartbeats 4000000 in
/-- The tables of bodies. -/
theorem e_bodies : Cert.Kernel.defs₀ (F := F) = Cert.KernelIdeal.defs₀ (F := F) := by
  funext p ℓ a
  match p, ℓ, a with
  | .tc, 1, (t, s) =>
    unfold Cert.Kernel.defs₀ Cert.KernelIdeal.defs₀
    dsimp only
    rw [e_body]
    rfl
  | .scVector c i, 0, _ =>
    unfold Cert.Kernel.defs₀ Cert.KernelIdeal.defs₀
    dsimp only
    rw [e_gather]
    rfl
  | .tc, 0, _ => rfl
  | .scScalar c, 0, _ => rfl
  | .scScalar c, 1, _ => rfl
  | .scVector c i, 1, _ => rfl
set_option maxHeartbeats 4000000 in
/-- The definitions the launch runs over. -/
theorem e_defs : Cert.Kernel.defs (F := F) = Cert.KernelIdeal.defs (F := F) := by
  unfold Cert.Kernel.defs Cert.KernelIdeal.defs
  rw [e_bodies]
  rfl
set_option maxHeartbeats 4000000 in
/-- The threads. -/
theorem e_threads : Cert.Kernel.threads (F := F) = Cert.KernelIdeal.threads (F := F) := by
  unfold Cert.Kernel.threads Cert.KernelIdeal.threads
  rw [e_main]
  rfl
set_option maxHeartbeats 4000000 in
/-- A run of the idealized text is a run of the kernel. -/
theorem run_of_run (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (Cert.KernelIdeal.threads (F := F)) s Q) :
    θ_run (Cert.Kernel.defs (F := F)) (Cert.Kernel.threads (F := F)) s Q := by
  rw [e_defs, e_threads]
  exact h

end Cert.Transfer

end
-- ==== Proof.FrameClaims.lean ====
/-
  The frame claims: the kernel at the bit instance (its run is the idealized text's, `Cert.Transfer.run_of_run`), the idealized
  kernel at the ideal instance, and the reference.
-/
module

public import proofs.«01_k».proof.Defs
public import proofs.«01_k».proof.Proof.Frames
public import proofs.«01_k».proof.Proof.TransferRun
public import proofs.«01_k».proof.Proof.Gen.Kernel
public import proofs.«01_k».proof.Proof.Gen.ReferenceIdeal
public import proofs.«01_k».proof.Proof.Gen.ReferenceIdeal.Run
public import proofs.«01_k».proof.Proof.Gen.Pre_in_vocab

@[expose] public section

set_option maxRecDepth 16384

noncomputable section

namespace Cert.Proof

open Idealize.ShloMosaic Idealize.SL.Sem
open Cert.KernelIdeal.Frames

/-- The kernel, at bits. -/
theorem frame_kernel : Cert.quiescent_Kernel := fun m ρ hpre => by
  have hk : θ_run (Cert.Kernel.defs (F := Bits)) (Cert.Kernel.threads (F := Bits)) ⟨m, fun _ => 0, ρ⟩ (Kept (F := Bits) m) :=
    Cert.Transfer.run_of_run _ _ (run_kept (F := Bits) m ρ fun d => list_in_range _ _ _ _ _ _ _ _ _ _ _ _ _ _ _ _ _ (hpre d))
  refine (θ_run Cert.Kernel.defs _ _).mono (fun r (h : Kept (F := Bits) m r) => ?_) hk
  exact ⟨fun c => ⟨(h.1 c).1 Cert.KernelIdeal.main_arg0 rfl (by decide), (h.1 c).1 Cert.KernelIdeal.main_arg1 rfl (by decide), (h.1 c).1 Cert.KernelIdeal.main_arg2 rfl (by decide), (h.1 c).1 Cert.KernelIdeal.main_arg3 rfl (by decide), (h.1 c).1 Cert.KernelIdeal.main_arg4 rfl (by decide), (h.1 c).1 Cert.KernelIdeal.main_arg5 rfl (by decide), (h.1 c).1 Cert.KernelIdeal.main_arg6 rfl (by decide), (h.1 c).1 Cert.KernelIdeal.main_arg7 rfl (by decide), (h.1 c).1 Cert.KernelIdeal.main_arg8 rfl (by decide), (h.1 c).1 Cert.KernelIdeal.main_arg9 rfl (by decide), (h.1 c).1 Cert.KernelIdeal.main_arg10 rfl (by decide), (h.1 c).1 Cert.KernelIdeal.main_arg11 rfl (by decide), (h.1 c).1 Cert.KernelIdeal.main_arg12 rfl (by decide), (h.1 c).1 Cert.KernelIdeal.main_arg13 rfl (by decide), (h.1 c).1 Cert.KernelIdeal.main_arg14 rfl (by decide), (h.1 c).1 Cert.KernelIdeal.main_arg15 rfl (by decide), (h.1 c).1 Cert.KernelIdeal.main_arg16 rfl (by decide)⟩, h.2⟩

/-- The kernel's text, at the ideal instance. -/
theorem frame_ideal : Cert.quiescent_KernelIdeal := fun m ρ hpre =>
  (θ_run Cert.KernelIdeal.defs _ _).mono
    (fun _ h => ⟨fun c => ⟨(h.1 c).1 Cert.KernelIdeal.main_arg0 rfl (by decide), (h.1 c).1 Cert.KernelIdeal.main_arg1 rfl (by decide), (h.1 c).1 Cert.KernelIdeal.main_arg2 rfl (by decide), (h.1 c).1 Cert.KernelIdeal.main_arg3 rfl (by decide), (h.1 c).1 Cert.KernelIdeal.main_arg4 rfl (by decide), (h.1 c).1 Cert.KernelIdeal.main_arg5 rfl (by decide), (h.1 c).1 Cert.KernelIdeal.main_arg6 rfl (by decide), (h.1 c).1 Cert.KernelIdeal.main_arg7 rfl (by decide), (h.1 c).1 Cert.KernelIdeal.main_arg8 rfl (by decide), (h.1 c).1 Cert.KernelIdeal.main_arg9 rfl (by decide), (h.1 c).1 Cert.KernelIdeal.main_arg10 rfl (by decide), (h.1 c).1 Cert.KernelIdeal.main_arg11 rfl (by decide), (h.1 c).1 Cert.KernelIdeal.main_arg12 rfl (by decide), (h.1 c).1 Cert.KernelIdeal.main_arg13 rfl (by decide), (h.1 c).1 Cert.KernelIdeal.main_arg14 rfl (by decide), (h.1 c).1 Cert.KernelIdeal.main_arg15 rfl (by decide), (h.1 c).1 Cert.KernelIdeal.main_arg16 rfl (by decide)⟩, h.2⟩)
    (run_kept (F := Ideal) m ρ fun d => list_in_range _ _ _ _ _ _ _ _ _ _ _ _ _ _ _ _ _ (hpre d))

/-- The reference keeps its arguments and ends with every counter at zero: it declares none. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does it where the row numbers are in range. -/
theorem frame_ref_pre : Cert.quiescent_ReferenceIdeal_pre_in_vocab := fun m ρ _ => frame_ref m ρ trivial

end Cert.Proof

end
-- ==== Proof.Model.lean ====
/-
  The problem's mathematics over the extended reals, item by item: one propagation step of the graph network and the read-out,
  as sums over the nodes and the features. Two identities between the spellings of the same number: the logistic function by the
  hyperbolic tangent (`half_tanh`), and a mean taken before or after the division by the degree (`mean_out`).
-/
module

public import Idealize.ShloMosaic.PureOps.Ideal.Laws
public import Idealize.ShloMosaic.Lib.IdealHost
public import Mathlib.Analysis.SpecialFunctions.Trigonometric.DerivHyp
public import Mathlib.Data.EReal.Inv

@[expose] public section

noncomputable section

namespace Cert.Model

open Idealize.ShloMosaic

/-- The weights and the biases of a step. -/
structure Par where
  wm : Fin 128 → Fin 128 → EReal
  bm : Fin 128 → EReal
  wz : Fin 128 → Fin 128 → EReal
  uz : Fin 128 → Fin 128 → EReal
  bz : Fin 128 → EReal
  wr : Fin 128 → Fin 128 → EReal
  ur : Fin 128 → Fin 128 → EReal
  br : Fin 128 → EReal
  wh : Fin 128 → Fin 128 → EReal
  uh : Fin 128 → Fin 128 → EReal
  bh : Fin 128 → EReal

/-- The degree of a node, bounded from below. -/
def deg (a : Fin 512 → Fin 512 → EReal) (l : Fin 512) : EReal := max (Ideal.ofBits .f32 0x358637BD#32) (∑ x, a l x)

/-- The logistic function. -/
def gate (x : EReal) : EReal := Ideal.div 1 (1 + Ideal.exp (-x))

/-- The messages: the mean of the neighbours' transformed states, plus a bias. -/
def msg (p : Par) (a : Fin 512 → Fin 512 → EReal) (h : Fin 512 → Fin 128 → EReal) (l : Fin 512) (c : Fin 128) : EReal :=
  ∑ x, Ideal.div (a l x) (deg a l) * ∑ y, h x y * p.wm y c + p.bm c

/-- The update gate at given messages. -/
def upd (p : Par) (m h : Fin 512 → Fin 128 → EReal) (l : Fin 512) (c : Fin 128) : EReal :=
  gate (∑ x, m l x * p.wz x c + ∑ x, h l x * p.uz x c + p.bz c)

/-- The reset gate at given messages. -/
def rst (p : Par) (m h : Fin 512 → Fin 128 → EReal) (l : Fin 512) (c : Fin 128) : EReal :=
  gate (∑ x, m l x * p.wr x c + ∑ x, h l x * p.ur x c + p.br c)

/-- The candidate at given messages, before its hyperbolic tangent. -/
def cand (p : Par) (m h : Fin 512 → Fin 128 → EReal) (l : Fin 512) (c : Fin 128) : EReal :=
  ∑ x, m l x * p.wh x c + ∑ x, (rst p m h l x * h l x) * p.uh x c + p.bh c

/-- The next state at given messages, masked. -/
def next (p : Par) (μ : Fin 512 → EReal) (m h : Fin 512 → Fin 128 → EReal) (l : Fin 512) (c : Fin 128) : EReal :=
  ((1 - upd p m h l c) * h l c + upd p m h l c * Ideal.tanh (cand p m h l c)) * μ l

/-- One step of the state. -/
def step (p : Par) (a : Fin 512 → Fin 512 → EReal) (μ : Fin 512 → EReal) (h : Fin 512 → Fin 128 → EReal) :
    Fin 512 → Fin 128 → EReal :=
  next p μ (msg p a h) h

/-- The read-out of a state. -/
def out (wo : Fin 128 → EReal) (bo : EReal) (h : Fin 512 → Fin 128 → EReal) (l : Fin 512) : EReal :=
  ∑ x, h l x * wo x + bo

/-- Three steps from a first state, read out. -/
def item (p : Par) (a : Fin 512 → Fin 512 → EReal) (μ : Fin 512 → EReal) (wo : Fin 128 → EReal) (bo : EReal)
    (h : Fin 512 → Fin 128 → EReal) (l : Fin 512) : EReal :=
  out wo bo (step p a μ (step p a μ (step p a μ h))) l

/-- The float word of one half denotes one half. -/
theorem ofBits_half : Ideal.ofBits .f32 0x3F000000#32 = ((1 / 2 : ℝ) : EReal) := by
  simp [Ideal.ofBits, Ideal.ieee, -EReal.coe_mul]
  norm_num

/-- The logistic function of a real number, by the hyperbolic tangent of its half. -/
theorem real_half_tanh (x : ℝ) : 1 / 2 * Real.tanh (1 / 2 * x) + 1 / 2 = (1 + Real.exp (-x))⁻¹ := by
  have h1 : Real.exp (1 / 2 * x) ≠ 0 := (Real.exp_pos _).ne'
  have hx : Real.exp (-x) = Real.exp (-(1 / 2 * x)) * Real.exp (-(1 / 2 * x)) := by
    rw [← Real.exp_add]; congr 1; ring
  have hi : Real.exp (-(1 / 2 * x)) = (Real.exp (1 / 2 * x))⁻¹ := Real.exp_neg _
  have hp : 0 < Real.exp (1 / 2 * x) := Real.exp_pos _
  rw [Real.tanh_eq_sinh_div_cosh, Real.sinh_eq, Real.cosh_eq, hx, hi]
  have h2 : Real.exp (1 / 2 * x) + (Real.exp (1 / 2 * x))⁻¹ ≠ 0 := by positivity
  have h3 : 1 + (Real.exp (1 / 2 * x))⁻¹ * (Real.exp (1 / 2 * x))⁻¹ ≠ 0 := by positivity
  field_simp
  ring

/-- The logistic function of an extended real, by the hyperbolic tangent of its half. -/
theorem half_tanh (x : EReal) :
    Ideal.ofBits .f32 0x3F000000#32 * Ideal.tanh (Ideal.ofBits .f32 0x3F000000#32 * x) + Ideal.ofBits .f32 0x3F000000#32
      = gate x := by
  rw [ofBits_half]
  show _ = Ideal.logistic x
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, ← EReal.coe_mul, ← EReal.coe_add, Ideal.logistic_coe, real_half_tanh]

/-- The least degree is a positive number. -/
theorem floor_pos : (0 : EReal) < Ideal.ofBits .f32 0x358637BD#32 := by
  have h : Ideal.ofBits .f32 0x358637BD#32 = ((8796093 / 2 ^ 43 : ℝ) : EReal) := by
    simp [Ideal.ofBits, Ideal.ieee, -EReal.coe_mul]
    norm_num
  rw [h]
  exact_mod_cast (by positivity : (0 : ℝ) < 8796093 / 2 ^ 43)

/-- A degree is positive. -/
theorem deg_pos (a : Fin 512 → Fin 512 → EReal) (l : Fin 512) : 0 < deg a l := lt_of_lt_of_le floor_pos (le_max_left _ _)

/-- The reciprocal of a positive extended real is not negative, and not infinite. -/
theorem inv_real {d : EReal} (h : 0 < d) : 0 ≤ d⁻¹ ∧ d⁻¹ ≠ ⊤ :=
  ⟨EReal.inv_nonneg_of_nonneg h.le, (EReal.inv_lt_top d).ne⟩

/-- A product with a number that is neither negative nor infinite distributes over a finite sum. -/
theorem sum_mul_real {n : ℕ} (f : Fin n → EReal) {r : EReal} (h : 0 ≤ r) (ht : r ≠ ⊤) :
    (∑ x, f x) * r = ∑ x, f x * r := by
  induction n with
  | zero => simp
  | succ n ih => rw [Fin.sum_univ_succ, Fin.sum_univ_succ, EReal.right_distrib_of_nonneg_of_ne_top h ht, ih]

/-- A mean, divided before the sum or after it. -/
theorem mean_out (a : Fin 512 → Fin 512 → EReal) (l : Fin 512) (y : Fin 512 → EReal) :
    (∑ x, a l x * y x) * Ideal.div 1 (deg a l) = ∑ x, Ideal.div (a l x) (deg a l) * y x := by
  have h0 := (deg_pos a l).ne'
  have hd : ∀ z, Ideal.div z (deg a l) = z * (deg a l)⁻¹ := fun z => by rw [Ideal.div, if_neg h0]
  rw [hd, one_mul, sum_mul_real _ (inv_real (deg_pos a l)).1 (inv_real (deg_pos a l)).2]
  refine Finset.sum_congr rfl fun x _ => ?_
  rw [hd, mul_assoc, mul_assoc, mul_comm (y x)]

end Cert.Model

end
-- ==== Proof.ItemValue.lean ====
/-
  The TensorCore kernel's item at the ideal instance, index by index: each of its steps is the model's step
  (`Cert.Model.step`) at the weights laid side by side, and what it stores is the model's item (`itemOf_apply`).
-/
module

public import proofs.«01_k».proof.Proof.Model
public import proofs.«01_k».proof.Proof.Item
public import Idealize.ShloMosaic.Lib.Pointwise

@[expose] public section

set_option maxRecDepth 16384

noncomputable section

namespace Cert.KernelIdeal.ItemValue

open Cert.KernelIdeal Cert.KernelIdeal.Gen Cert.KernelIdeal.Item

open Idealize.ShloMosaic

/-- The columns of a matrix of 384 columns, from the first, the second or the third 128. -/
def col (k : Fin 3) (c : Fin 128) : Fin 384 := ⟨128 * k.val + c.val, by omega⟩

/-- The first columns. -/
theorem col_zero (c : Fin 128) : col 0 c = ⟨c.val, by omega⟩ := Fin.ext (by simp [col])

/-- The weights and the biases that the kernel reads, the products' weights laid side by side. -/
def par (wm wz : FVec Ideal S128x384 .f32) (uh : FVec Ideal S128x128 .f32) (bm bz br bh : FVec Ideal S1x128 .f32) : Model.Par where
  wm x c := wm (ix2 x (col 0 c))
  bm c := bm (ix2 0 c)
  wz x c := wz (ix2 x (col 0 c))
  uz x c := wm (ix2 x (col 1 c))
  bz c := bz (ix2 0 c)
  wr x c := wz (ix2 x (col 1 c))
  ur x c := wm (ix2 x (col 2 c))
  br c := br (ix2 0 c)
  wh x c := wz (ix2 x (col 2 c))
  uh x c := uh (ix2 x c)
  bh c := bh (ix2 0 c)

/-- The mask of an item of a given length. -/
def mask (n : BitVec 32) (l : Fin 512) : EReal :=
  FloatOps.sitofp (F := Ideal) .f32 (BitVec.setWidth 32 (IntOp.cmpi .slt (BitVec.ofNat 32 l) n))

/-- A state by its two coordinates. -/
def sl (h : FVec Ideal S512x128 .f32) (l : Fin 512) (c : Fin 128) : EReal := h (ix2 l c)

/-- The mask as a column. -/
theorem maskOf_apply (n : BitVec 32) (l : Fin 512) : maskOf (F := Ideal) n (ix2 l 0) = mask n l := by
  pointwise [maskOf]
  rfl

/-- The reciprocal of a degree. -/
theorem invOf_apply (a : FVec Ideal S512x512 .f32) (l : Fin 512) :
    invOf a (ix2 l 0) = Ideal.div 1 (Model.deg (fun l x => a (ix2 l x)) l) := by
  pointwise [invOf]
  rfl

/-- The gate is the logistic function. -/
theorem gateOf_apply (x : FVec Ideal S512x128 .f32) (l : Fin 512) (c : Fin 128) : gateOf x (ix2 l c) = Model.gate (x (ix2 l c)) := by
  pointwise [gateOf]
  exact Model.half_tanh _

/-- The state's three products. -/
theorem curOf_apply (wm : FVec Ideal S128x384 .bf16) (h : FVec Ideal S512x128 .f32) (l : Fin 512) (c : Fin 384) :
    curOf wm h (ix2 l c) = ∑ x, h (ix2 l x) * wm (ix2 x c) := by
  pointwise [curOf]

/-- The messages' three products. -/
theorem mulOf_apply (wz : FVec Ideal S128x384 .bf16) (m : FVec Ideal S512x128 .f32) (l : Fin 512) (c : Fin 384) :
    mulOf wz m (ix2 l c) = ∑ x, m (ix2 l x) * wz (ix2 x c) := by
  pointwise [mulOf]

/-- The messages, at the products of the states. -/
theorem msgOf_apply (bm : FVec Ideal S1x128 .f32) (inv : FVec Ideal S512x1 .f32) (ab : FVec Ideal S512x512 .bf16)
    (cur : FVec Ideal S512x384 .f32) (l : Fin 512) (c : Fin 128) : msgOf bm inv ab cur (ix2 l c)
      = (∑ x, ab (ix2 l x) * cur (ix2 x (col 0 c))) * inv (ix2 l 0) + bm (ix2 0 c) := by
  pointwise [msgOf]
  simp only [col_zero]

/-- The update gate. -/
theorem zOf_apply (bz : FVec Ideal S1x128 .f32) (cur g : FVec Ideal S512x384 .f32) (l : Fin 512) (c : Fin 128) :
    zOf bz cur g (ix2 l c) = Model.gate (g (ix2 l (col 0 c)) + cur (ix2 l (col 1 c)) + bz (ix2 0 c)) := by
  unfold zOf
  rw [gateOf_apply]
  congr 1
  pointwise []
  rw [show (⟨c.val, by omega⟩ : Fin 384) = col 0 c from (col_zero c).symm]
  rfl

/-- The reset gate. -/
theorem rOf_apply (br : FVec Ideal S1x128 .f32) (cur g : FVec Ideal S512x384 .f32) (l : Fin 512) (c : Fin 128) :
    rOf br cur g (ix2 l c) = Model.gate (g (ix2 l (col 1 c)) + cur (ix2 l (col 2 c)) + br (ix2 0 c)) := by
  unfold rOf
  rw [gateOf_apply]
  congr 1
  pointwise []
  rfl

/-- The candidate. -/
theorem preOf_apply (uh : FVec Ideal S128x128 .bf16) (bh : FVec Ideal S1x128 .f32) (h r : FVec Ideal S512x128 .f32)
    (g : FVec Ideal S512x384 .f32) (l : Fin 512) (c : Fin 128) : preOf uh bh h r g (ix2 l c)
      = g (ix2 l (col 2 c)) + ∑ x, (r (ix2 l x) * h (ix2 l x)) * uh (ix2 x c) + bh (ix2 0 c) := by
  pointwise [preOf]
  rfl

/-- The mixture. -/
theorem mixOf_apply (mask : FVec Ideal S512x1 .f32) (h z p : FVec Ideal S512x128 .f32) (l : Fin 512) (c : Fin 128) :
    mixOf mask h z p (ix2 l c)
      = ((1 - z (ix2 l c)) * h (ix2 l c) + z (ix2 l c) * Ideal.tanh (p (ix2 l c))) * mask (ix2 l 0) := by
  pointwise [mixOf]

/-- One step is the model's. -/
theorem stepOf_apply (wm wz : FVec Ideal S128x384 .f32) (uh : FVec Ideal S128x128 .f32) (bm bz br bh : FVec Ideal S1x128 .f32)
    (n : BitVec 32) (a : FVec Ideal S512x512 .f32) (h : FVec Ideal S512x128 .f32) :
    sl (stepOf (F := Ideal) wm wz uh bm bz br bh (maskOf n) (invOf a) a h)
      = Model.step (par wm wz uh bm bz br bh) (fun l x => a (ix2 l x)) (mask n) (sl h) := by
  have hM : ∀ l c, msgOf (F := Ideal) bm (invOf a) a (curOf wm h) (ix2 l c)
      = Model.msg (par wm wz uh bm bz br bh) (fun l x => a (ix2 l x)) (sl h) l c := by
    intro l c
    rw [msgOf_apply, invOf_apply]
    simp only [curOf_apply]
    rw [Model.mean_out (fun l x => a (ix2 l x)) l (fun x => ∑ y, h (ix2 x y) * wm (ix2 y (col 0 c)))]
    rfl
  have hR : ∀ l c, rOf br (curOf (F := Ideal) wm h) (mulOf wz (msgOf (F := Ideal) bm (invOf a) a (curOf wm h))) (ix2 l c)
      = Model.rst (par wm wz uh bm bz br bh) (Model.msg (par wm wz uh bm bz br bh) (fun l x => a (ix2 l x)) (sl h)) (sl h) l c := by
    intro l c
    rw [rOf_apply, curOf_apply, mulOf_apply]
    simp only [hM]
    rfl
  funext l c
  refine (mixOf_apply ..).trans ?_
  rw [zOf_apply, preOf_apply]
  simp only [hR, mulOf_apply, curOf_apply, hM, maskOf_apply]
  rfl

/-- What an item stores is the model's item. -/
theorem itemOf_apply (n : BitVec 32) (bo : Ideal .f32) (a : FVec Ideal S1x512x512 .f32) (h0 : FVec Ideal S1x512x128 .f32)
    (wm wz : FVec Ideal S128x384 .f32) (uh : FVec Ideal S128x128 .f32) (bm bz br bh : FVec Ideal S1x128 .f32)
    (wo : FVec Ideal S128x1 .f32) (l : Fin 512) :
    itemOf (F := Ideal) n bo a h0 wm wz uh bm bz br bh wo (ix3 0 l 0)
      = Model.item (par wm wz uh bm bz br bh) (fun l x => a (ix3 0 l x)) (mask n) (fun x => wo (ix2 x 0)) bo
          (fun l c => h0 (ix3 0 l c) * mask n l) l := by
  have hr : ∀ (h : FVec Ideal S512x128 .f32), shapeCast S1x512x1 (readOf (F := Ideal) wo bo h) shapeCasts_S512x1_S1x512x1 (ix3 0 l 0)
      = Model.out (fun x => wo (ix2 x 0)) bo (sl h) l := by
    intro h
    pointwise [readOf]
    rfl
  have hi : sl (initOf (maskOf (F := Ideal) n) h0) = fun l c => h0 (ix3 0 l c) * mask n l := by
    funext l c
    have e : initOf (maskOf (F := Ideal) n) h0 (ix2 l c) = h0 (ix3 0 l c) * maskOf (F := Ideal) n (ix2 l 0) := by
      pointwise [initOf]
    exact e.trans (by rw [maskOf_apply])
  have ha : ∀ l x, shapeCast S512x512 a shapeCasts_S1x512x512_S512x512 (ix2 l x) = a (ix3 0 l x) := by
    intro l x
    pointwise []
  have hm : ∀ w : FVec Ideal S128x384 .f32, shapeCast S128x384 w shapeCasts_S128x384_S128x384 = w := fun w =>
    shapeCast_self w _
  have hb : ∀ w : FVec Ideal S1x128 .f32, shapeCast S1x128 w shapeCasts_S1x128_S1x128 = w := fun w => shapeCast_self w _
  unfold itemOf
  rw [hm, hm, hb, hb, hb, hb]
  refine (hr _).trans ?_
  unfold Model.item
  have hs := stepOf_apply wm wz uh bm bz br bh n (shapeCast S512x512 a shapeCasts_S1x512x512_S512x512)
  simp only [ha] at hs
  rw [← hi, ← hs, ← hs, ← hs]
  rfl

end Cert.KernelIdeal.ItemValue

end
-- ==== Proof.HostValue.lean ====
/-
  The host operations between the gather and the TensorCore kernel, index by index: the looked-up rows by item, the biases
  one per row, the weights side by side, and the lengths as a column.
-/
module

public import proofs.«01_k».proof.Proof.ItemValue
public import proofs.«01_k».proof.Proof.Main
public import Idealize.ShloMosaic.Lib.Pointwise

@[expose] public section

set_option maxRecDepth 16384

noncomputable section

namespace Cert.KernelIdeal.HostValue

open Cert.KernelIdeal Cert.KernelIdeal.Gen Cert.KernelIdeal.Main
open Idealize.ShloMosaic

variable {F : FTy → Type} [FloatOps F] (V : Valuation τ sig (Elt F))

/-- The looked-up rows by item. -/
theorem v2_eq : StableHlo.after opsB V (Proc.devRef .tc main_v2)
    = shapeCast S16x512x128 (V (Proc.devRef .tc main_v1)) shapeCasts_S8192x128_S16x512x128 := by
  unfold opsB
  after_results_simp
  rfl

/-- The lengths as a column. -/
theorem v10_eq : StableHlo.after opsB V (Proc.devRef .tc main_v10)
    = shapeCast S16x1 (V (Proc.devRef .tc main_arg2)) shapeCasts_S16_S16x1 := by
  unfold opsB
  after_results_simp
  rfl

/-- The weights of the messages and of the states in the two gates, side by side. -/
theorem v8_eq : StableHlo.after opsB V (Proc.devRef .tc main_v8)
    = concatenate S128x384 1 [⟨S128x128, V (Proc.devRef .tc main_arg4)⟩, ⟨S128x128, V (Proc.devRef .tc main_arg7)⟩, ⟨S128x128, V (Proc.devRef .tc main_arg10)⟩]
        concatenates_S128x128_S128x128_S128x128_S128x384_d1 := by
  unfold opsB
  after_results_simp
  rfl

/-- The weights of the messages in the two gates and in the candidate, side by side. -/
theorem v9_eq : StableHlo.after opsB V (Proc.devRef .tc main_v9)
    = concatenate S128x384 1 [⟨S128x128, V (Proc.devRef .tc main_arg6)⟩, ⟨S128x128, V (Proc.devRef .tc main_arg9)⟩, ⟨S128x128, V (Proc.devRef .tc main_arg12)⟩]
        concatenates_S128x128_S128x128_S128x128_S128x384_d1 := by
  unfold opsB
  after_results_simp
  rfl

/-- The biases, one per row. -/
theorem v7_eq : StableHlo.after opsB V (Proc.devRef .tc main_v7)
    = concatenate S4x128 0 [⟨S1x128, broadcastInDim S1x128 ![1] bcast_S128_S1x128_1 (V (Proc.devRef .tc main_arg5))⟩,
        ⟨S1x128, broadcastInDim S1x128 ![1] bcast_S128_S1x128_1 (V (Proc.devRef .tc main_arg8))⟩,
        ⟨S1x128, broadcastInDim S1x128 ![1] bcast_S128_S1x128_1 (V (Proc.devRef .tc main_arg11))⟩,
        ⟨S1x128, broadcastInDim S1x128 ![1] bcast_S128_S1x128_1 (V (Proc.devRef .tc main_arg14))⟩]
        concatenates_S1x128_S1x128_S1x128_S1x128_S4x128_d0 := by
  unfold opsB
  after_results_simp
  rfl

/-- The three matrices laid side by side, column by column. -/
theorem cat_apply (A B C : S128x128.Idx → Elt F .f32) (x c : Fin 128) :
    concatenate S128x384 1 [⟨S128x128, A⟩, ⟨S128x128, B⟩, ⟨S128x128, C⟩] concatenates_S128x128_S128x128_S128x128_S128x384_d1
        (ix2 x (ItemValue.col 0 c)) = A (ix2 x c)
    ∧ concatenate S128x384 1 [⟨S128x128, A⟩, ⟨S128x128, B⟩, ⟨S128x128, C⟩] concatenates_S128x128_S128x128_S128x128_S128x384_d1
        (ix2 x (ItemValue.col 1 c)) = B (ix2 x c)
    ∧ concatenate S128x384 1 [⟨S128x128, A⟩, ⟨S128x128, B⟩, ⟨S128x128, C⟩] concatenates_S128x128_S128x128_S128x128_S128x384_d1
        (ix2 x (ItemValue.col 2 c)) = C (ix2 x c) := by
  refine ⟨by pointwise [ItemValue.col], by pointwise [ItemValue.col], ?_⟩
  pointwise [ItemValue.col]
  rw [dif_neg (by omega), dif_neg (by omega)]
  congr 2
  exact Fin.ext (by show 256 + c.val - 128 - 128 = c.val; omega)

/-- The four biases, row by row. -/
theorem rows_apply (A B C D : S128.Idx → Elt F .f32) (r : Fin 4) (c : Fin 128) :
    concatenate S4x128 0 [⟨S1x128, broadcastInDim S1x128 ![1] bcast_S128_S1x128_1 A⟩, ⟨S1x128, broadcastInDim S1x128 ![1] bcast_S128_S1x128_1 B⟩,
        ⟨S1x128, broadcastInDim S1x128 ![1] bcast_S128_S1x128_1 C⟩, ⟨S1x128, broadcastInDim S1x128 ![1] bcast_S128_S1x128_1 D⟩]
        concatenates_S1x128_S1x128_S1x128_S1x128_S4x128_d0 (ix2 r c) = ![A, B, C, D] r (ix1 c) := by
  fin_cases r <;> pointwise [] <;> rfl

/-! ## At the ideal instance -/

section Ideal

variable (V : Valuation τ sig (Elt Idealize.ShloMosaic.Ideal))

/-- The weights and the biases as the arguments hold them. -/
def par : Model.Par where
  wm x c := V (Proc.devRef .tc main_arg4) (ix2 x c)
  bm c := V (Proc.devRef .tc main_arg5) (ix1 c)
  wz x c := V (Proc.devRef .tc main_arg6) (ix2 x c)
  uz x c := V (Proc.devRef .tc main_arg7) (ix2 x c)
  bz c := V (Proc.devRef .tc main_arg8) (ix1 c)
  wr x c := V (Proc.devRef .tc main_arg9) (ix2 x c)
  ur x c := V (Proc.devRef .tc main_arg10) (ix2 x c)
  br c := V (Proc.devRef .tc main_arg11) (ix1 c)
  wh x c := V (Proc.devRef .tc main_arg12) (ix2 x c)
  uh x c := V (Proc.devRef .tc main_arg13) (ix2 x c)
  bh c := V (Proc.devRef .tc main_arg14) (ix1 c)

/-- The kernel's weights and biases are the arguments'. -/
theorem par_eq : ItemValue.par (StableHlo.after opsB V (Proc.devRef .tc main_v8)) (StableHlo.after opsB V (Proc.devRef .tc main_v9))
      (V (Proc.devRef .tc main_arg13))
      (fun j => StableHlo.after opsB V (Proc.devRef .tc main_v7) (ix2 0 (j 1))) (fun j => StableHlo.after opsB V (Proc.devRef .tc main_v7) (ix2 1 (j 1)))
      (fun j => StableHlo.after opsB V (Proc.devRef .tc main_v7) (ix2 2 (j 1))) (fun j => StableHlo.after opsB V (Proc.devRef .tc main_v7) (ix2 3 (j 1)))
    = par V := by
  rw [v7_eq, v8_eq, v9_eq]
  unfold ItemValue.par par
  simp only [Model.Par.mk.injEq]
  refine ⟨?_, ?_, ?_, ?_, ?_, ?_, ?_, ?_, ?_, ?_, ?_⟩
  · exact funext fun x => funext fun c => (cat_apply _ _ _ x c).1
  · exact funext fun c => rows_apply _ _ _ _ 0 c
  · exact funext fun x => funext fun c => (cat_apply _ _ _ x c).1
  · exact funext fun x => funext fun c => (cat_apply _ _ _ x c).2.1
  · exact funext fun c => rows_apply _ _ _ _ 1 c
  · exact funext fun x => funext fun c => (cat_apply _ _ _ x c).2.1
  · exact funext fun x => funext fun c => (cat_apply _ _ _ x c).2.2
  · exact funext fun c => rows_apply _ _ _ _ 2 c
  · exact funext fun x => funext fun c => (cat_apply _ _ _ x c).2.2
  · trivial
  · exact funext fun c => rows_apply _ _ _ _ 3 c

/-- The adjacency block of an item. -/
def adj (b : Fin 16) (l x : Fin 512) : EReal := V (Proc.devRef .tc main_arg0) (ix3 b l x)

/-- The mask of an item. -/
def mask (b : Fin 16) (l : Fin 512) : EReal :=
  FloatOps.uitofp (F := Idealize.ShloMosaic.Ideal) .f32 (IntOp.cmpi .slt (BitVec.ofNat 32 l) (V (Proc.devRef .tc main_arg2) (ix1 b)))

/-- The table of rows. -/
def table (r : Fin 100000) (c : Fin 128) : EReal := V (Proc.devRef .tc main_arg3) (ix2 r c)

/-- A bit widened to a word and read signed is the bit read unsigned. -/
theorem sitofp_bit (p : BitVec 1) : FloatOps.sitofp (F := Idealize.ShloMosaic.Ideal) .f32 (BitVec.setWidth 32 p)
    = FloatOps.uitofp (F := Idealize.ShloMosaic.Ideal) .f32 p := by
  show ((((BitVec.setWidth 32 p).toInt : ℤ) : ℝ) : EReal) = ((p.toNat : ℝ) : EReal)
  have h : (BitVec.setWidth 32 p).toInt = (p.toNat : ℤ) := by
    revert p; decide
  rw [h]
  simp

/-- The kernel's mask at the column of lengths. -/
theorem mask_eq (b : Fin 16) :
    ItemValue.mask (StableHlo.after opsB V (Proc.devRef .tc main_v10) (ix2 b 0)) = mask V b := by
  have e : StableHlo.after opsB V (Proc.devRef .tc main_v10) (ix2 b 0) = V (Proc.devRef .tc main_arg2) (ix1 b) := by
    rw [v10_eq]
    pointwise []
  rw [e]
  funext l
  exact sitofp_bit _

end Ideal

/-- A looked-up row of an item, as a row of the flat array. -/
theorem v2_apply (b : Fin 16) (l : Fin 512) (c : Fin 128) :
    StableHlo.after opsB V (Proc.devRef .tc main_v2) (ix3 b l c)
      = V (Proc.devRef .tc main_v1) (ix2 (⟨b.val * 512 + l.val, by omega⟩ : Fin 8192) c) := by
  rw [v2_eq]
  pointwise []

/-- An entry of the flat list, as a word of an item. -/
theorem list_apply (A : S16x512.Idx → BitVec 32) (b : Fin 16) (l : Fin 512) :
    shapeCast S64x128 A shapeCasts_S16x512_S64x128
      (ix2 (⟨(b.val * 512 + l.val) / 128, by omega⟩ : Fin 64) (⟨(b.val * 512 + l.val) % 128, by omega⟩ : Fin 128)) = A (ix2 b l) := by
  pointwise []

end Cert.KernelIdeal.HostValue

end
-- ==== Proof.RegionValue.lean ====
/-
  What the region of the TensorCore kernel reads and leaves, index by index: the blocks that a grid point reads of the arrays
  the region is entered at, and the result's array after the last point, item by item (`exit_apply`).
-/
module

public import proofs.«01_k».proof.Proof.Region
public import Idealize.ShloMosaic.Lib.Pointwise
public import Idealize.ShloMosaic.Lib.Pointwise.IndexBridge
public import Idealize.ShloMosaic.Lib.Pipeline.ValueKit

@[expose] public section

set_option maxRecDepth 16384

noncomputable section

namespace Cert.KernelIdeal.RegionValue

open Cert.KernelIdeal Cert.KernelIdeal.Gen Cert.KernelIdeal.Item Cert.KernelIdeal.Region

open Idealize.ShloMosaic

variable {F : FTy → Type} [FloatOps F]

variable (W : Dev nD → Valuation τ sig (Elt F)) (c : Dev nD)

/-- The block's number at a grid point. -/
def blkNo (t : Fin cfg1.N) : Fin 2 := grid1.coords t 0

/-- The block numbers of every window at a grid point. -/
theorem idx (t : Fin cfg1.N) :
    win1_0.index t = ![0, 0] ∧ win1_1.index t = ![0] ∧ win1_2.index t = ![(blkNo t).val, 0, 0]
    ∧ win1_3.index t = ![(blkNo t).val, 0, 0] ∧ win1_4.index t = ![0, 0] ∧ win1_5.index t = ![0, 0] ∧ win1_6.index t = ![0, 0]
    ∧ win1_7.index t = ![0, 0] ∧ win1_8.index t = ![0, 0] ∧ win1_9.index t = ![(blkNo t).val, 0, 0] := by
  rcases fin_N1 t with rfl | rfl <;> decide +kernel

/-- The item of a block's row. -/
def row (b : Fin 2) (k : Fin 8) : Fin 16 := ⟨8 * b.val + k.val, by omega⟩

theorem read_0 (t : Fin cfg1.N) : iblk W c 0 t = W c (Proc.devRef .tc main_v10) := by
  blk_ext! [iblk, idx t]
theorem read_1 (t : Fin cfg1.N) : iblk W c 1 t = W c (Proc.devRef .tc main_arg16) := by
  blk_ext! [iblk, idx t]
theorem read_4 (t : Fin cfg1.N) : iblk W c 4 t = W c (Proc.devRef .tc main_v8) := by
  blk_ext! [iblk, idx t]
theorem read_5 (t : Fin cfg1.N) : iblk W c 5 t = W c (Proc.devRef .tc main_v9) := by
  blk_ext! [iblk, idx t]
theorem read_6 (t : Fin cfg1.N) : iblk W c 6 t = W c (Proc.devRef .tc main_arg13) := by
  blk_ext! [iblk, idx t]
theorem read_7 (t : Fin cfg1.N) : iblk W c 7 t = W c (Proc.devRef .tc main_v7) := by
  blk_ext! [iblk, idx t]
theorem read_8 (t : Fin cfg1.N) : iblk W c 8 t = W c (Proc.devRef .tc main_arg15) := by
  blk_ext! [iblk, idx t]
theorem read_2 (t : Fin cfg1.N) (k : Fin 8) (l x : Fin 512) :
    iblk W c 2 t (ix3 k l x) = W c (Proc.devRef .tc main_arg0) (ix3 (row (blkNo t) k) l x) := by
  blk_ext! [iblk, row, idx t]
theorem read_3 (t : Fin cfg1.N) (k : Fin 8) (l : Fin 512) (x : Fin 128) :
    iblk W c 3 t (ix3 k l x) = W c (Proc.devRef .tc main_v2) (ix3 (row (blkNo t) k) l x) := by
  blk_ext! [iblk, row, idx t]

/-- The item `b` of the arrays that the region is entered at. -/
def itemIn (b : Fin 16) : FVec F S1x512x1 .f32 :=
  itemOf (W c (Proc.devRef .tc main_v10) (ix2 b 0)) (W c (Proc.devRef .tc main_arg16) (ix1 0))
    (fun j => W c (Proc.devRef .tc main_arg0) (ix3 b (j 1) (j 2))) (fun j => W c (Proc.devRef .tc main_v2) (ix3 b (j 1) (j 2)))
    (W c (Proc.devRef .tc main_v8)) (W c (Proc.devRef .tc main_v9)) (W c (Proc.devRef .tc main_arg13))
    (fun j => W c (Proc.devRef .tc main_v7) (ix2 0 (j 1))) (fun j => W c (Proc.devRef .tc main_v7) (ix2 1 (j 1)))
    (fun j => W c (Proc.devRef .tc main_v7) (ix2 2 (j 1))) (fun j => W c (Proc.devRef .tc main_v7) (ix2 3 (j 1)))
    (W c (Proc.devRef .tc main_arg15))

/-- An item is a function of what it reads. -/
theorem itemOf_congr {n n' : Elt F .i32} {bo bo' : Elt F .f32} {a a' : Vec F S1x512x512 .f32} {h0 h0' : Vec F S1x512x128 .f32}
    {wm wm' wz wz' : Vec F S128x384 .f32} {uh uh' : Vec F S128x128 .f32} {bm bm' bz bz' br br' bh bh' : Vec F S1x128 .f32}
    {wo wo' : Vec F S128x1 .f32} {j j' : S1x512x1.Idx} (e1 : n = n') (e2 : bo = bo') (e3 : a = a') (e4 : h0 = h0') (e5 : wm = wm')
    (e6 : wz = wz') (e7 : uh = uh') (e8 : bm = bm') (e9 : bz = bz') (e10 : br = br') (e11 : bh = bh') (e12 : wo = wo')
    (e13 : j = j') :
    itemOf n bo a h0 wm wz uh bm bz br bh wo j = itemOf n' bo' a' h0' wm' wz' uh' bm' bz' br' bh' wo' j' := by
  subst e1 e2 e3 e4 e5 e6 e7 e8 e9 e10 e11 e12 e13
  rfl

/-- What a grid point leaves in a row of its block is that row's item. -/
theorem outsAt_apply (t : Fin cfg1.N) (k : Fin 8) (l : Fin 512) :
    outsAt W c t (ix3 k l 0) = itemIn W c (row (blkNo t) k) (ix3 0 l 0) := by
  have e7 : ∀ r : Fin 4, (fun j : S1x128.Idx => iblk W c 7 t (ValueIdx.ix2 r (j 1)))
      = fun j => W c (Proc.devRef .tc main_v7) (ix2 r (j 1)) := fun r => by
    rw [read_7]
    funext j
    exact congrArg (W c (Proc.devRef .tc main_v7)) (ix2_eq_valueIdx r (j 1)).symm
  unfold outsAt blockOut itemAt itemIn
  exact itemOf_congr
    ((congrFun (read_0 W c t) _).trans (congrArg (W c (Proc.devRef .tc main_v10)) (ix2_eq_valueIdx (row (blkNo t) k) 0).symm))
    ((congrFun (read_1 W c t) _).trans (congrArg (W c (Proc.devRef .tc main_arg16)) (ix1_eq_valueIdx 0).symm))
    (funext fun j => (congrArg (iblk W c 2 t) (ix3_eq_valueIdx k (j 1) (j 2)).symm).trans (read_2 W c t k (j 1) (j 2)))
    (funext fun j => (congrArg (iblk W c 3 t) (ix3_eq_valueIdx k (j 1) (j 2)).symm).trans (read_3 W c t k (j 1) (j 2)))
    (read_4 W c t) (read_5 W c t) (read_6 W c t) (e7 0) (e7 1) (e7 2) (e7 3) (read_8 W c t) (ix3_eq_valueIdx 0 l 0).symm

/-- The place of a block's row in the result's array. -/
theorem place_9 (t : Fin cfg1.N) (k : Fin 8) (l : Fin 512) :
    ((cfg1.win 9).blk t).view.emb (ix3 k l 0) = ix3 (row (blkNo t) k) l 0 := by
  blk_ext! [row, idx t]

/-- The array of all the items. -/
def items : S16x512x1.Idx → Elt F .f32 := fun y => itemIn W c (y 0) (ix3 0 (y 1) 0)

theorem items_apply (b : Fin 16) (l : Fin 512) : items W c (ix3 b l 0) = itemIn W c b (ix3 0 l 0) := by
  unfold items
  rfl

/-- What a grid point leaves in a row of its block, in the array of all the items. -/
theorem outsAt_items (t : Fin cfg1.N) (k : Fin 8) (l : Fin 512) :
    outsAt W c t (ix3 k l 0) = items W c (((cfg1.win 9).blk t).view.emb (ix3 k l 0)) :=
  (outsAt_apply W c t k l).trans ((items_apply W c (row (blkNo t) k) l).symm.trans (congrArg (items W c) (place_9 t k l)).symm)

/-- The result's array after the region. -/
theorem exit_arr : (dat W c).arrAt 9 cfg1.N = items W c := by
  refine (dat W c).arrAt_eq_of_covers 9 _ (by decide +kernel) fun t hf y => ?_
  blk_simp
  rw [after_9]
  obtain ⟨k, l, z, rfl⟩ : ∃ k l z, y = ix3 k l z := ⟨y 0, y 1, y 2, eq_ix3 y⟩
  obtain rfl : z = 0 := Subsingleton.elim _ _
  exact outsAt_items W c t k l

/-- The result's array after the region, item by item. -/
theorem exit_apply (b : Fin 16) (l : Fin 512) :
    Pipeline.afterRegion (dat W c) (W c) (Proc.devRef .tc main_v11) (ix3 b l 0) = itemIn W c b (ix3 0 l 0) :=
  (congrFun ((Pipeline.afterRegion_arr (dat W c) (W c) (launch1.toP (Val := Elt F)).win.arr_inj 9).trans (exit_arr W c)) _).trans
    (items_apply W c b l)

end Cert.KernelIdeal.RegionValue

end
-- ==== Proof.KernelValue.lean ====
/-
  The kernel's result at the ideal instance, index by index: the model's item at the arguments, from the rows of the table
  that the row numbers name (`result_apply`).
-/
module

public import proofs.«01_k».proof.Proof.HostValue
public import proofs.«01_k».proof.Proof.RegionValue
public import proofs.«01_k».proof.Proof.Frames

@[expose] public section

set_option maxRecDepth 16384

noncomputable section

namespace Cert.KernelIdeal.KernelValue

open Cert.KernelIdeal Cert.KernelIdeal.Gen Cert.KernelIdeal.Main Cert.KernelIdeal.Frames Cert.KernelIdeal.HostValue
open Cert.KernelIdeal.RegionValue Cert.KernelIdeal.Region Cert.KernelIdeal.Tile
open Idealize.ShloMosaic

variable (m : (ℓ : Loc nD τ sig) → Buf (Elt Idealize.ShloMosaic.Ideal) ℓ) (d : Dev nD)

/-- The program's result is the region's array, its last axis dropped. -/
theorem final_apply (b : Fin 16) (l : Fin 512) :
    finalV m d (Proc.devRef .tc main_v12) (ix2 b l) = exitV m d (Proc.devRef .tc main_v11) (ix3 b l 0) := by
  have e := StableHlo.reshape_result' (τ := τ) (x := main_v11) (y := main_v12) (rfl : (.f32 : EltTy) = .f32) shapeCasts_S16x512x1_S16x512
    ⟨by decide, rfl⟩ ⟨by decide, rfl⟩ (exitV m d)
  have e' : finalV m d (Proc.devRef .tc main_v12)
      = shapeCast S16x512 (exitV m d (Proc.devRef .tc main_v11)) shapeCasts_S16x512x1_S16x512 := e
  rw [e']
  pointwise []

/-- The rows the region reads. -/
def looked (b : Fin 16) (l : Fin 512) (c : Fin 128) : EReal := entryV m d (Proc.devRef .tc main_v2) (ix3 b l c)

/-- The rows the region reads are the rows of the table that the row numbers name. -/
theorem rows_apply (h : ∀ j : S16x512.Idx, ((m (d, Proc.devRef .tc main_arg1) : S16x512.Idx → BitVec 32) j).toNat < 100000)
    (b : Fin 16) (l : Fin 512) (c : Fin 128) :
    looked m d b l c
      = table (StableHlo.launchContents m d) ⟨((m (d, Proc.devRef .tc main_arg1) : S16x512.Idx → BitVec 32) (ix2 b l)).toNat, h _⟩ c := by
  refine (v2_apply (afterCall m d) b l c).trans ?_
  have e : afterCall m d (Proc.devRef .tc main_v1) = rowsOf (listOf m) (tableOf m) d := Function.update_self _ _ _
  rw [e]
  have el : listOf m d (ix2 (⟨(b.val * 512 + l.val) / 128, by omega⟩ : Fin 64) (⟨(b.val * 512 + l.val) % 128, by omega⟩ : Fin 128))
      = (m (d, Proc.devRef .tc main_arg1) : S16x512.Idx → BitVec 32) (ix2 b l) := by
    rw [listOf_apply]
    exact list_apply _ b l
  refine (Vals.gathered_apply (n := 64) (R := 8192) rfl (listOf m d) (tableOf m d) (ix2 (⟨b.val * 512 + l.val, by omega⟩ : Fin 8192) c)
    (ix2 (⟨((m (d, Proc.devRef .tc main_arg1) : S16x512.Idx → BitVec 32) (ix2 b l)).toNat, h _⟩ : Fin 100000) c)
    (ix2 (⟨(b.val * 512 + l.val) / 128, by omega⟩ : Fin 64) (⟨(b.val * 512 + l.val) % 128, by omega⟩ : Fin 128))
    rfl rfl ?_ rfl).trans ?_
  · show ((m (d, Proc.devRef .tc main_arg1) : S16x512.Idx → BitVec 32) (ix2 b l)).toNat = _
    rw [el]
  · exact congrFun (kept_beforeCall m d main_arg3 (by decide)) _

/-- The weights and biases the region reads are the arguments'. -/
theorem par_kept : par (afterCall m d) = par (StableHlo.launchContents m d) := by
  unfold par
  rw [kept_afterCall m d main_arg4 (by decide), kept_afterCall m d main_arg5 (by decide), kept_afterCall m d main_arg6 (by decide),
    kept_afterCall m d main_arg7 (by decide), kept_afterCall m d main_arg8 (by decide), kept_afterCall m d main_arg9 (by decide),
    kept_afterCall m d main_arg10 (by decide), kept_afterCall m d main_arg11 (by decide), kept_afterCall m d main_arg12 (by decide),
    kept_afterCall m d main_arg13 (by decide), kept_afterCall m d main_arg14 (by decide)]

/-- The mask the region reads is the one of the lengths. -/
theorem mask_kept (b : Fin 16) : ItemValue.mask (entryV m d (Proc.devRef .tc main_v10) (ix2 b 0)) = mask (StableHlo.launchContents m d) b := by
  refine (mask_eq (afterCall m d) b).trans ?_
  unfold mask
  rw [kept_afterCall m d main_arg2 (by decide)]

/-- The parameters of an item as the region reads them. -/
theorem par_entry : ItemValue.par (entryV m d (Proc.devRef .tc main_v8)) (entryV m d (Proc.devRef .tc main_v9))
      (entryV m d (Proc.devRef .tc main_arg13))
      (fun j => entryV m d (Proc.devRef .tc main_v7) (ix2 0 (j 1))) (fun j => entryV m d (Proc.devRef .tc main_v7) (ix2 1 (j 1)))
      (fun j => entryV m d (Proc.devRef .tc main_v7) (ix2 2 (j 1))) (fun j => entryV m d (Proc.devRef .tc main_v7) (ix2 3 (j 1)))
    = par (StableHlo.launchContents m d) := by
  rw [kept_entry m d main_arg13 (by decide), ← kept_afterCall m d main_arg13 (by decide), ← par_kept]
  exact par_eq (afterCall m d)

/-- The kernel's result, index by index. -/
theorem result_apply (h : ∀ j : S16x512.Idx, ((m (d, Proc.devRef .tc main_arg1) : S16x512.Idx → BitVec 32) j).toNat < 100000)
    (b : Fin 16) (l : Fin 512) :
    finalV m d (Proc.devRef .tc main_v12) (ix2 b l)
      = Model.item (par (StableHlo.launchContents m d)) (adj (StableHlo.launchContents m d) b) (mask (StableHlo.launchContents m d) b)
          (fun x => m (d, Proc.devRef .tc main_arg15) (ix2 x 0)) (m (d, Proc.devRef .tc main_arg16) (ix1 0))
          (fun l c => table (StableHlo.launchContents m d)
              ⟨((m (d, Proc.devRef .tc main_arg1) : S16x512.Idx → BitVec 32) (ix2 b l)).toNat, h _⟩ c
            * mask (StableHlo.launchContents m d) b l) l := by
  rw [final_apply]
  refine (exit_apply (entryV m) d b l).trans ?_
  unfold itemIn
  refine (ItemValue.itemOf_apply _ _ _ _ _ _ _ _ _ _ _ _ _).trans ?_
  rw [par_entry, mask_kept, kept_entry m d main_arg0 (by decide), kept_entry m d main_arg15 (by decide), kept_entry m d main_arg16 (by decide)]
  have e : ∀ (l : Fin 512) (c : Fin 128), looked m d b l c * mask (StableHlo.launchContents m d) b l
      = table (StableHlo.launchContents m d) ⟨((m (d, Proc.devRef .tc main_arg1) : S16x512.Idx → BitVec 32) (ix2 b l)).toNat, h _⟩ c
          * mask (StableHlo.launchContents m d) b l := fun l c =>
    congrArg (fun x : EReal => x * mask (StableHlo.launchContents m d) b l) (rows_apply m d h b l c)
  exact congrArg (fun H => Model.item (par (StableHlo.launchContents m d)) (adj (StableHlo.launchContents m d) b)
    (mask (StableHlo.launchContents m d) b) (fun x => m (d, Proc.devRef .tc main_arg15) (ix2 x 0))
    (m (d, Proc.devRef .tc main_arg16) (ix1 0)) H l) (funext fun l => funext fun c => e l c)

end Cert.KernelIdeal.KernelValue

end
-- ==== Proof.RefValue.lean ====
/-
  The reference's values at the ideal instance, index by index: each step of the reference is the model's step
  (`Cert.Model.step`) of each item, and its result the model's read-out.
-/
module

public import proofs.«01_k».proof.Proof.Model
public import proofs.«01_k».proof.Proof.Gen.ReferenceIdeal.Run
public import Idealize.ShloMosaic.Lib.Pointwise

@[expose] public section

set_option maxRecDepth 16384

noncomputable section

namespace Cert.ReferenceIdeal.RefValue

open Cert.ReferenceIdeal Cert.ReferenceIdeal.Gen Cert.ReferenceIdeal.Value

open Idealize.ShloMosaic Idealize.ShloMosaic.TcCoe

/-- The reference's weights and biases. -/
def par (V : Valuation τ sig (Elt Ideal)) : Model.Par where
  wm x c := V (Proc.devRef .tc main_arg4) (ix2 x c)
  bm c := V (Proc.devRef .tc main_arg5) (ix1 c)
  wz x c := V (Proc.devRef .tc main_arg6) (ix2 x c)
  uz x c := V (Proc.devRef .tc main_arg7) (ix2 x c)
  bz c := V (Proc.devRef .tc main_arg8) (ix1 c)
  wr x c := V (Proc.devRef .tc main_arg9) (ix2 x c)
  ur x c := V (Proc.devRef .tc main_arg10) (ix2 x c)
  br c := V (Proc.devRef .tc main_arg11) (ix1 c)
  wh x c := V (Proc.devRef .tc main_arg12) (ix2 x c)
  uh x c := V (Proc.devRef .tc main_arg13) (ix2 x c)
  bh c := V (Proc.devRef .tc main_arg14) (ix1 c)

/-- The adjacency block of an item. -/
def adj (V : Valuation τ sig (Elt Ideal)) (b : Fin 16) (l x : Fin 512) : EReal := V (Proc.devRef .tc main_arg0) (ix3 b l x)

/-- The mask of an item. -/
def mask (V : Valuation τ sig (Elt Ideal)) (b : Fin 16) (l : Fin 512) : EReal :=
  FloatOps.uitofp (F := Ideal) .f32 (IntOp.cmpi .slt (BitVec.ofNat 32 l) (V (Proc.devRef .tc main_arg2) (ix1 b)))

/-- One item of a batch of states. -/
def sl (H : FVec Ideal S16x512x128 .f32) (b : Fin 16) (l : Fin 512) (c : Fin 128) : EReal := H (ix3 b l c)

/-- The messages of a batch of states. -/
def msg (V : Valuation τ sig (Elt Ideal)) (H : FVec Ideal S16x512x128 .f32) : FVec Ideal S16x512x128 .f32 :=
  addf (Host.dotGeneral (φ₁ := .f32) (φ₂ := .f32) dot_S16x512x512_S16x512x128_S16x512x128_2_1_1_2_0_0 none (res_main_v15 V) (Host.dotGeneral (φ₁ := .f32) (φ₂ := .f32) dot_S16x512x128_S128x128_S16x512x128_2_0_01_1_n_n none H (V (Proc.devRef .tc main_arg4)))) (broadcastInDim S16x512x128 ![0, 1, 2] bcast_S1x1x128_S16x512x128_0_1_2 (broadcastInDim S1x1x128 ![2] bcast_S128_S1x1x128_2 (V (Proc.devRef .tc main_arg5))))

/-- A gate of messages and states, at its two weights and its bias. -/
def gate (W U : FVec Ideal S128x128 .f32) (B : FVec Ideal S128 .f32) (M H : FVec Ideal S16x512x128 .f32) :
    FVec Ideal S16x512x128 .f32 :=
  Host.divf (broadcastInDim S16x512x128 ![] bcast_S_S16x512x128 (constant S_ .f32 0x3F800000#32)) (addf (broadcastInDim S16x512x128 ![] bcast_S_S16x512x128 (constant S_ .f32 0x3F800000#32)) (Host.exp (Host.negf (addf (addf (Host.dotGeneral (φ₁ := .f32) (φ₂ := .f32) dot_S16x512x128_S128x128_S16x512x128_2_0_01_1_n_n none M W) (Host.dotGeneral (φ₁ := .f32) (φ₂ := .f32) dot_S16x512x128_S128x128_S16x512x128_2_0_01_1_n_n none H U)) (broadcastInDim S16x512x128 ![0, 1, 2] bcast_S1x1x128_S16x512x128_0_1_2 (broadcastInDim S1x1x128 ![2] bcast_S128_S1x1x128_2 B))))))

/-- The candidate, before its hyperbolic tangent, at the reset gate. -/
def cand (V : Valuation τ sig (Elt Ideal)) (R M H : FVec Ideal S16x512x128 .f32) : FVec Ideal S16x512x128 .f32 :=
  addf (addf (Host.dotGeneral (φ₁ := .f32) (φ₂ := .f32) dot_S16x512x128_S128x128_S16x512x128_2_0_01_1_n_n none M (V (Proc.devRef .tc main_arg12))) (Host.dotGeneral (φ₁ := .f32) (φ₂ := .f32) dot_S16x512x128_S128x128_S16x512x128_2_0_01_1_n_n none (mulf R H) (V (Proc.devRef .tc main_arg13)))) (broadcastInDim S16x512x128 ![0, 1, 2] bcast_S1x1x128_S16x512x128_0_1_2 (broadcastInDim S1x1x128 ![2] bcast_S128_S1x1x128_2 (V (Proc.devRef .tc main_arg14))))

/-- The mixture of the state and the candidate, masked. -/
def mix (V : Valuation τ sig (Elt Ideal)) (Z H P : FVec Ideal S16x512x128 .f32) : FVec Ideal S16x512x128 .f32 :=
  mulf (addf (mulf (subf (broadcastInDim S16x512x128 ![] bcast_S_S16x512x128 (constant S_ .f32 0x3F800000#32)) Z) H) (mulf Z (Host.tanh P))) (broadcastInDim S16x512x128 ![0, 1, 2] bcast_S16x512x1_S16x512x128_0_1_2 (res_main_v8 V))

/-- The next batch of states at given messages. -/
def next (V : Valuation τ sig (Elt Ideal)) (M H : FVec Ideal S16x512x128 .f32) : FVec Ideal S16x512x128 .f32 :=
  mix V (gate (V (Proc.devRef .tc main_arg6)) (V (Proc.devRef .tc main_arg7)) (V (Proc.devRef .tc main_arg8)) M H) H
    (cand V (gate (V (Proc.devRef .tc main_arg9)) (V (Proc.devRef .tc main_arg10)) (V (Proc.devRef .tc main_arg11)) M H) M H)

/-- One step of a batch of states. -/
def step (V : Valuation τ sig (Elt Ideal)) (H : FVec Ideal S16x512x128 .f32) : FVec Ideal S16x512x128 .f32 := next V (msg V H) H

/-- The read-out of a batch of states. -/
def out (V : Valuation τ sig (Elt Ideal)) (H : FVec Ideal S16x512x128 .f32) : FVec Ideal S16x512x1 .f32 :=
  addf (Host.dotGeneral (φ₁ := .f32) (φ₂ := .f32) dot_S16x512x128_S128x1_S16x512x1_2_0_01_1_n_n none H (V (Proc.devRef .tc main_arg15))) (broadcastInDim S16x512x1 ![0, 1, 2] bcast_S1x1x1_S16x512x1_0_1_2 (broadcastInDim S1x1x1 ![2] bcast_S1_S1x1x1_2 (V (Proc.devRef .tc main_arg16))))

/-- The normalised adjacency. -/
theorem v15_apply (V : Valuation τ sig (Elt Ideal)) (b : Fin 16) (l x : Fin 512) :
    res_main_v15 V (ix3 b l x) = Ideal.div (adj V b l x) (Model.deg (adj V b) l) := by
  pointwise [res_main_v15]
  rfl

/-- The mask. -/
theorem v8_apply (V : Valuation τ sig (Elt Ideal)) (b : Fin 16) (l : Fin 512) : res_main_v8 V (ix3 b l 0) = mask V b l := by
  pointwise [res_main_v8]
  rfl

/-- The messages are the model's. -/
theorem msg_apply (V : Valuation τ sig (Elt Ideal)) (H : FVec Ideal S16x512x128 .f32) (b : Fin 16) (l : Fin 512) (c : Fin 128) :
    msg V H (ix3 b l c) = Model.msg (par V) (adj V b) (sl H b) l c := by
  pointwise [msg]
  simp only [v15_apply]
  rfl

/-- A gate is the model's logistic function of its three terms. -/
theorem gate_apply (W U : FVec Ideal S128x128 .f32) (B : FVec Ideal S128 .f32) (M H : FVec Ideal S16x512x128 .f32)
    (b : Fin 16) (l : Fin 512) (c : Fin 128) : gate W U B M H (ix3 b l c)
      = Model.gate (∑ x, M (ix3 b l x) * W (ix2 x c) + ∑ x, H (ix3 b l x) * U (ix2 x c) + B (ix1 c)) := by
  pointwise [gate]
  rfl

/-- The candidate. -/
theorem cand_apply (V : Valuation τ sig (Elt Ideal)) (R M H : FVec Ideal S16x512x128 .f32) (b : Fin 16) (l : Fin 512)
    (c : Fin 128) : cand V R M H (ix3 b l c) = ∑ x, sl M b l x * (par V).wh x c
      + ∑ x, (sl R b l x * sl H b l x) * (par V).uh x c + (par V).bh c := by
  pointwise [cand]
  rfl

/-- The mixture. -/
theorem mix_apply (V : Valuation τ sig (Elt Ideal)) (Z H P : FVec Ideal S16x512x128 .f32) (b : Fin 16) (l : Fin 512)
    (c : Fin 128) : mix V Z H P (ix3 b l c)
      = ((1 - sl Z b l c) * sl H b l c + sl Z b l c * Ideal.tanh (sl P b l c)) * mask V b l := by
  pointwise [mix]
  rw [v8_apply]
  rfl

/-- The next states at given messages are the model's. -/
theorem next_apply (V : Valuation τ sig (Elt Ideal)) (M H : FVec Ideal S16x512x128 .f32) (b : Fin 16) :
    sl (next V M H) b = Model.next (par V) (mask V b) (sl M b) (sl H b) := by
  funext l c
  have hR : ∀ x, sl (gate (V (Proc.devRef .tc main_arg9)) (V (Proc.devRef .tc main_arg10)) (V (Proc.devRef .tc main_arg11)) M H)
      b l x = Model.rst (par V) (sl M b) (sl H b) l x := fun x => gate_apply ..
  have hZ : sl (gate (V (Proc.devRef .tc main_arg6)) (V (Proc.devRef .tc main_arg7)) (V (Proc.devRef .tc main_arg8)) M H)
      b l c = Model.upd (par V) (sl M b) (sl H b) l c := gate_apply ..
  have hC : sl (cand V (gate (V (Proc.devRef .tc main_arg9)) (V (Proc.devRef .tc main_arg10)) (V (Proc.devRef .tc main_arg11))
      M H) M H) b l c = Model.cand (par V) (sl M b) (sl H b) l c := by
    refine (cand_apply ..).trans ?_
    simp only [hR]
    rfl
  refine (mix_apply ..).trans ?_
  rw [hZ, hC]
  rfl

/-- One step is the model's. -/
theorem step_apply (V : Valuation τ sig (Elt Ideal)) (H : FVec Ideal S16x512x128 .f32) (b : Fin 16) :
    sl (step V H) b = Model.step (par V) (adj V b) (mask V b) (sl H b) := by
  have hM : sl (msg V H) b = Model.msg (par V) (adj V b) (sl H b) := by
    funext l c
    exact msg_apply V H b l c
  unfold step Model.step
  rw [next_apply, hM]

/-- The read-out is the model's. -/
theorem out_apply (V : Valuation τ sig (Elt Ideal)) (H : FVec Ideal S16x512x128 .f32) (b : Fin 16) (l : Fin 512) :
    out V H (ix3 b l 0) = Model.out (fun x => V (Proc.devRef .tc main_arg15) (ix2 x 0)) (V (Proc.devRef .tc main_arg16) (ix1 0))
      (sl H b) l := by
  pointwise [out]
  rfl

/-- The first step's states. -/
theorem v59_eq (V : Valuation τ sig (Elt Ideal)) : res_main_v59 V = step V (res_main_v10 V) := by
  unfold res_main_v59 step next mix gate cand msg res_main_v32 res_main_v20
  rfl

/-- The second step's states. -/
theorem v103_eq (V : Valuation τ sig (Elt Ideal)) : res_main_v103 V = step V (res_main_v59 V) := by
  unfold res_main_v103 step next mix gate cand msg res_main_v76 res_main_v64
  rfl

end Cert.ReferenceIdeal.RefValue

end
-- ==== Proof.RefGather.lean ====
/-
  The reference's first states at the ideal instance: where every word names a row of the table, the looked-up row times the
  mask; and the reference's result, index by index, is the model's item (`result_apply`).
-/
module

public import proofs.«01_k».proof.Proof.RefValue
public import Idealize.ShloMosaic.Lib.ReduceAll

@[expose] public section

set_option maxRecDepth 16384

noncomputable section

namespace Cert.ReferenceIdeal.RefValue

open Cert.ReferenceIdeal Cert.ReferenceIdeal.Gen Cert.ReferenceIdeal.Value

open Idealize.ShloMosaic Idealize.ShloMosaic.TcCoe

/-- A word under 100000 is not negative. -/
theorem not_neg {v : BitVec 32} (h : v.toNat < 100000) : IntOp.cmpi .slt v 0#32 = 0#1 := by
  have e : v.slt 0#32 = false := by
    rw [BitVec.slt_eq_decide, decide_eq_false_iff_not]
    simp only [BitVec.toInt_eq_toNat_cond, BitVec.toNat_ofNat, Nat.reducePow, Nat.reduceMod]
    omega
  show BitVec.ofBool (v.slt 0#32) = 0#1
  rw [e]; rfl

/-- A word under 100000 is at least zero. -/
theorem at_least {v : BitVec 32} (h : v.toNat < 100000) : IntOp.cmpi .sge v 0#32 = 1#1 := by
  have e : (0#32).sle v = true := by
    rw [BitVec.sle_eq_decide, decide_eq_true_eq]
    simp only [BitVec.toInt_eq_toNat_cond, BitVec.toNat_ofNat, Nat.reducePow, Nat.reduceMod]
    omega
  show BitVec.ofBool ((0#32).sle v) = 1#1
  rw [e]; rfl

/-- A word under 100000 is at most 99999. -/
theorem at_most {v : BitVec 32} (h : v.toNat < 100000) : IntOp.cmpi .sle v 99999#32 = 1#1 := by
  have e : v.sle 99999#32 = true := by
    rw [BitVec.sle_eq_decide, decide_eq_true_eq]
    simp only [BitVec.toInt_eq_toNat_cond, BitVec.toNat_ofNat, Nat.reducePow, Nat.reduceMod]
    omega
  show BitVec.ofBool (v.sle 99999#32) = 1#1
  rw [e]; rfl

/-- A word under 100000, read signed and clamped to the table's rows, is itself. -/
theorem clamped {v : BitVec 32} (h : v.toNat < 100000) : min v.toInt.toNat (100000 - 1) = v.toNat := by
  simp only [BitVec.toInt_eq_toNat_cond, Nat.reducePow]
  omega

/-- The lookup read at an index: the table's row of the word, read signed and clamped to the table's rows. -/
theorem gather_apply (x : FVec Ideal S100000x128 .f32) (idx : IVec S16x512x1 32) (b : Fin 16) (l : Fin 512) (c : Fin 128) :
    Host.gather gather_S100000x128_S16x512x1_S16x512x128_2_0_n_n_0_2_1128 x idx (ix3 b l c)
      = x (ix2 ⟨min (idx (ix3 b l 0)).toInt.toNat (100000 - 1), by omega⟩ c) := by
  unfold Host.gather
  congr 1
  funext a
  refine Fin.ext ?_
  show GatherDims.start _ (ix3 b l c) idx a + GatherDims.batchCoord _ (ix3 b l c) a + GatherDims.offCoord _ (ix3 b l c) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S100000x128_S16x512x1_S16x512x128_2_0_n_n_0_2_1128.startIndexMap from
      List.mem_singleton.mpr rfl)]
    have hsi : GatherDims.siIdx gather_S100000x128_S16x512x1_S16x512x128_2_0_n_n_0_2_1128 (ix3 b l c)
        ⟨List.idxOf (0 : Fin 2) gather_S100000x128_S16x512x1_S16x512x128_2_0_n_n_0_2_1128.startIndexMap,
          List.idxOf_lt_length_iff.2 (List.mem_singleton.mpr rfl)⟩ = ix3 b l 0 := by
      funext e
      refine Fin.ext ?_
      match e with
      | ⟨0, _⟩ => rfl
      | ⟨1, _⟩ => rfl
      | ⟨2, _⟩ => rfl
    exact congrArg (fun i => min (idx i).toInt.toNat (100000 - 1)) hsi
  · unfold GatherDims.start GatherDims.offCoord
    rw [dif_neg (show (1 : Fin 2) ∉ gather_S100000x128_S16x512x1_S16x512x128_2_0_n_n_0_2_1128.startIndexMap from by decide),
      dif_pos (show (1 : Fin 2) ∈ gather_S100000x128_S16x512x1_S16x512x128_2_0_n_n_0_2_1128.sKept from by decide)]
    simp only [Nat.zero_add, Nat.add_zero]
    rfl

/-- The words, wrapped: where a word is in range it is itself. -/
theorem v5_apply (V : Valuation τ sig (Elt Ideal))
    (h : ∀ j : S16x512.Idx, ((V (Proc.devRef .tc main_arg1) : S16x512.Idx → BitVec 32) j).toNat < 100000) (b : Fin 16) (l : Fin 512) :
    res_main_call0_v5 V (ix3 b l 0) = (V (Proc.devRef .tc main_arg1) : S16x512.Idx → BitVec 32) (ix2 b l) := by
  pointwise [res_main_call0_v5]
  rw [not_neg (h _)]
  rfl

/-- Every wrapped word is in range. -/
theorem all_in_range (V : Valuation τ sig (Elt Ideal))
    (h : ∀ j : S16x512.Idx, ((V (Proc.devRef .tc main_arg1) : S16x512.Idx → BitVec 32) j).toNat < 100000) (i : S16x512x1.Idx) :
    andi (cmpi .sge (res_main_call0_v5 V) (broadcastInDim S16x512x1 ![] bcast_S_S16x512x1 (constantI S_ 32 0#32)))
      (cmpi .sle (res_main_call0_v5 V) (broadcastInDim S16x512x1 ![0, 1, 2] bcast_S1x1x1_S16x512x1_0_1_2
        (broadcastInDim S1x1x1 ![2] bcast_S1_S1x1x1_2 (constantI S1 32 99999#32)))) i = 1#1 := by
  obtain ⟨b, l, z, rfl⟩ : ∃ b l z, i = ix3 b l z := ⟨i 0, i 1, i 2, eq_ix3 i⟩
  obtain rfl : z = 0 := Subsingleton.elim _ _
  pointwise []
  rw [v5_apply V h, at_least (h _), at_most (h _)]
  rfl

/-- The table of rows. -/
def table (V : Valuation τ sig (Elt Ideal)) (r : Fin 100000) (c : Fin 128) : EReal := V (Proc.devRef .tc main_arg3) (ix2 r c)

/-- The first states: the looked-up row times the mask. -/
theorem v10_apply (V : Valuation τ sig (Elt Ideal))
    (h : ∀ j : S16x512.Idx, ((V (Proc.devRef .tc main_arg1) : S16x512.Idx → BitVec 32) j).toNat < 100000)
    (b : Fin 16) (l : Fin 512) (c : Fin 128) : sl (res_main_v10 V) b l c
      = table V ⟨((V (Proc.devRef .tc main_arg1) : S16x512.Idx → BitVec 32) (ix2 b l)).toNat, h _⟩ c * mask V b l := by
  unfold sl res_main_v10 table
  have hc : ∀ x : IVec S16x512 1, (∀ j, x j = 1#1) → ∀ (y z w : FVec Ideal S16x512x128 .f32),
      mulf (select (broadcastInDim S16x512x128 ![0, 1] bcast_S16x512_S16x512x128_0_1 x) y z) w (ix3 b l c)
        = y (ix3 b l c) * w (ix3 b l c) := by
    intro x hx y z w
    pointwise []
    rw [hx]
    rfl
  refine (hc _ (fun j => Host.reduce_andi_one _ _ _ _ _ rfl (all_in_range V h)) _ _ _).trans ?_
  rw [gather_apply]
  have hm : broadcastInDim S16x512x128 ![0, 1, 2] bcast_S16x512x1_S16x512x128_0_1_2 (res_main_v8 V) (ix3 b l c) = mask V b l := by
    pointwise []
    exact v8_apply V b l
  rw [hm]
  congr 2
  refine congrArg (fun r => ix2 r c) (Fin.ext ?_)
  show min (res_main_call0_v5 V (ix3 b l 0)).toInt.toNat (100000 - 1) = _
  rw [v5_apply V h, clamped (h _)]

/-- The reference's result, index by index. -/
theorem result_apply (V : Valuation τ sig (Elt Ideal)) (b : Fin 16) (l : Fin 512) :
    shapeCast S16x512 (out V (step V (res_main_v103 V))) shapeCasts_S16x512x1_S16x512 (ix2 b l)
      = Model.item (par V) (adj V b) (mask V b) (fun x => V (Proc.devRef .tc main_arg15) (ix2 x 0))
          (V (Proc.devRef .tc main_arg16) (ix1 0)) (sl (res_main_v10 V) b) l := by
  have e : shapeCast S16x512 (out V (step V (res_main_v103 V))) shapeCasts_S16x512x1_S16x512 (ix2 b l)
      = out V (step V (res_main_v103 V)) (ix3 b l 0) := by
    pointwise []
  rw [e, out_apply, step_apply, v103_eq, step_apply, v59_eq, step_apply]
  rfl

end Cert.ReferenceIdeal.RefValue

end
-- ==== Proof.Algebraic.lean ====
/-
  The kernel and the reference compute one function of the arguments, in exact arithmetic: from equal arguments, the row
  numbers in range, both runs end with the same result and with every argument kept (`algebraic`).
-/
module

public import proofs.«01_k».proof.Proof.KernelValue
public import proofs.«01_k».proof.Proof.RefGather

@[expose] public section

set_option maxRecDepth 16384

noncomputable section

namespace Cert.Proof

open Idealize.ShloMosaic Idealize.SL.Sem
open Cert.KernelIdeal.Frames

section Values

variable (V : Valuation Cert.KernelIdeal.τ Cert.KernelIdeal.sig (Elt Idealize.ShloMosaic.Ideal))
  (V' : Valuation Cert.ReferenceIdeal.τ Cert.ReferenceIdeal.sig (Elt Idealize.ShloMosaic.Ideal))

/-- The two programs' arguments hold the same. -/
structure Same : Prop where
  h0 : V' (Proc.devRef .tc Cert.ReferenceIdeal.main_arg0) = V (Proc.devRef .tc Cert.KernelIdeal.main_arg0)
  h1 : V' (Proc.devRef .tc Cert.ReferenceIdeal.main_arg1) = V (Proc.devRef .tc Cert.KernelIdeal.main_arg1)
  h2 : V' (Proc.devRef .tc Cert.ReferenceIdeal.main_arg2) = V (Proc.devRef .tc Cert.KernelIdeal.main_arg2)
  h3 : V' (Proc.devRef .tc Cert.ReferenceIdeal.main_arg3) = V (Proc.devRef .tc Cert.KernelIdeal.main_arg3)
  h4 : V' (Proc.devRef .tc Cert.ReferenceIdeal.main_arg4) = V (Proc.devRef .tc Cert.KernelIdeal.main_arg4)
  h5 : V' (Proc.devRef .tc Cert.ReferenceIdeal.main_arg5) = V (Proc.devRef .tc Cert.KernelIdeal.main_arg5)
  h6 : V' (Proc.devRef .tc Cert.ReferenceIdeal.main_arg6) = V (Proc.devRef .tc Cert.KernelIdeal.main_arg6)
  h7 : V' (Proc.devRef .tc Cert.ReferenceIdeal.main_arg7) = V (Proc.devRef .tc Cert.KernelIdeal.main_arg7)
  h8 : V' (Proc.devRef .tc Cert.ReferenceIdeal.main_arg8) = V (Proc.devRef .tc Cert.KernelIdeal.main_arg8)
  h9 : V' (Proc.devRef .tc Cert.ReferenceIdeal.main_arg9) = V (Proc.devRef .tc Cert.KernelIdeal.main_arg9)
  h10 : V' (Proc.devRef .tc Cert.ReferenceIdeal.main_arg10) = V (Proc.devRef .tc Cert.KernelIdeal.main_arg10)
  h11 : V' (Proc.devRef .tc Cert.ReferenceIdeal.main_arg11) = V (Proc.devRef .tc Cert.KernelIdeal.main_arg11)
  h12 : V' (Proc.devRef .tc Cert.ReferenceIdeal.main_arg12) = V (Proc.devRef .tc Cert.KernelIdeal.main_arg12)
  h13 : V' (Proc.devRef .tc Cert.ReferenceIdeal.main_arg13) = V (Proc.devRef .tc Cert.KernelIdeal.main_arg13)
  h14 : V' (Proc.devRef .tc Cert.ReferenceIdeal.main_arg14) = V (Proc.devRef .tc Cert.KernelIdeal.main_arg14)
  h15 : V' (Proc.devRef .tc Cert.ReferenceIdeal.main_arg15) = V (Proc.devRef .tc Cert.KernelIdeal.main_arg15)
  h16 : V' (Proc.devRef .tc Cert.ReferenceIdeal.main_arg16) = V (Proc.devRef .tc Cert.KernelIdeal.main_arg16)

variable {V V'}

/-- Then so are the weights and the biases, -/
theorem Same.par (s : Same V V') : Cert.ReferenceIdeal.RefValue.par V' = Cert.KernelIdeal.HostValue.par V := by
  unfold Cert.ReferenceIdeal.RefValue.par Cert.KernelIdeal.HostValue.par
  simp only [Model.Par.mk.injEq]
  exact ⟨funext fun x => funext fun c => congrFun s.h4 (ix2 x c),
    funext fun c => congrFun s.h5 (ix1 c),
    funext fun x => funext fun c => congrFun s.h6 (ix2 x c),
    funext fun x => funext fun c => congrFun s.h7 (ix2 x c),
    funext fun c => congrFun s.h8 (ix1 c),
    funext fun x => funext fun c => congrFun s.h9 (ix2 x c),
    funext fun x => funext fun c => congrFun s.h10 (ix2 x c),
    funext fun c => congrFun s.h11 (ix1 c),
    funext fun x => funext fun c => congrFun s.h12 (ix2 x c),
    funext fun x => funext fun c => congrFun s.h13 (ix2 x c),
    funext fun c => congrFun s.h14 (ix1 c)⟩

/-- the adjacency blocks, -/
theorem Same.adj (s : Same V V') (b : Fin 16) : Cert.ReferenceIdeal.RefValue.adj V' b = Cert.KernelIdeal.HostValue.adj V b :=
  funext fun l => funext fun x => congrFun s.h0 (ix3 b l x)

/-- the masks, -/
theorem Same.mask (s : Same V V') (b : Fin 16) : Cert.ReferenceIdeal.RefValue.mask V' b = Cert.KernelIdeal.HostValue.mask V b :=
  funext fun l => congrArg (fun n : BitVec 32 => FloatOps.uitofp (F := Idealize.ShloMosaic.Ideal) .f32 (IntOp.cmpi .slt (BitVec.ofNat 32 l) n))
    (congrFun s.h2 (ix1 b))

/-- and the tables. -/
theorem Same.table (s : Same V V') : Cert.ReferenceIdeal.RefValue.table V' = Cert.KernelIdeal.HostValue.table V :=
  funext fun r => funext fun c => congrFun s.h3 (ix2 r c)

end Values

/-- The reference's result as its steps spell it. -/
def refResult (V : Valuation Cert.ReferenceIdeal.τ Cert.ReferenceIdeal.sig (Elt Idealize.ShloMosaic.Ideal)) :
    FVec Idealize.ShloMosaic.Ideal Cert.ReferenceIdeal.S16x512 .f32 :=
  shapeCast Cert.ReferenceIdeal.S16x512
    (Cert.ReferenceIdeal.RefValue.out V (Cert.ReferenceIdeal.RefValue.step V (Cert.ReferenceIdeal.Value.res_main_v103 V)))
    Cert.ReferenceIdeal.Gen.shapeCasts_S16x512x1_S16x512

section Results

variable (m : (ℓ : Loc Cert.KernelIdeal.nD Cert.KernelIdeal.τ Cert.KernelIdeal.sig) → Buf (Elt Idealize.ShloMosaic.Ideal) ℓ)
  (c : Dev Cert.KernelIdeal.nD)
  (V' : Valuation Cert.ReferenceIdeal.τ Cert.ReferenceIdeal.sig (Elt Idealize.ShloMosaic.Ideal))

/-- The two results are equal. -/
theorem same_result (s : Same (StableHlo.launchContents m c) V')
    (h : ∀ j : Cert.KernelIdeal.S16x512.Idx,
      ((m (c, Proc.devRef .tc Cert.KernelIdeal.main_arg1) : Cert.KernelIdeal.S16x512.Idx → BitVec 32) j).toNat < 100000) :
    refResult V' = (Cert.KernelIdeal.Main.finalV m c (Proc.devRef .tc Cert.KernelIdeal.main_v12) : Cert.KernelIdeal.S16x512.Idx → EReal) := by
  have h1 : ∀ j : Cert.ReferenceIdeal.S16x512.Idx,
      (V' (Proc.devRef .tc Cert.ReferenceIdeal.main_arg1) : Cert.ReferenceIdeal.S16x512.Idx → BitVec 32) j
        = (m (c, Proc.devRef .tc Cert.KernelIdeal.main_arg1) : Cert.KernelIdeal.S16x512.Idx → BitVec 32) j := fun j => congrFun s.h1 j
  have h' : ∀ j : Cert.ReferenceIdeal.S16x512.Idx,
      ((V' (Proc.devRef .tc Cert.ReferenceIdeal.main_arg1) : Cert.ReferenceIdeal.S16x512.Idx → BitVec 32) j).toNat < 100000 := fun j => by
    rw [h1]; exact h j
  funext j
  obtain ⟨b, l, rfl⟩ : ∃ b l, j = ix2 b l := ⟨j 0, j 1, eq_ix2 j⟩
  refine (Cert.ReferenceIdeal.RefValue.result_apply V' b l).trans ((?_ : _ = _).trans (Cert.KernelIdeal.KernelValue.result_apply m c h b l).symm)
  have e15 : (fun x : Fin 128 => (V' (Proc.devRef .tc Cert.ReferenceIdeal.main_arg15) (ix2 x 0) : EReal))
      = fun x => m (c, Proc.devRef .tc Cert.KernelIdeal.main_arg15) (ix2 x 0) := funext fun x => congrFun s.h15 (ix2 x 0)
  have e16 : (V' (Proc.devRef .tc Cert.ReferenceIdeal.main_arg16) (ix1 0) : EReal)
      = m (c, Proc.devRef .tc Cert.KernelIdeal.main_arg16) (ix1 0) := congrFun s.h16 (ix1 0)
  have e10 : Cert.ReferenceIdeal.RefValue.sl (Cert.ReferenceIdeal.Value.res_main_v10 V') b
      = fun l k => Cert.KernelIdeal.HostValue.table (StableHlo.launchContents m c)
          ⟨((m (c, Proc.devRef .tc Cert.KernelIdeal.main_arg1) : Cert.KernelIdeal.S16x512.Idx → BitVec 32) (ix2 b l)).toNat, h _⟩ k
            * Cert.KernelIdeal.HostValue.mask (StableHlo.launchContents m c) b l := by
    funext l k
    rw [Cert.ReferenceIdeal.RefValue.v10_apply V' h', s.table, s.mask]
    congr 2
    exact Fin.ext (congrArg BitVec.toNat (h1 (ix2 b l)))
  rw [s.par, s.adj, s.mask, e10]
  exact congrArg₂ (fun wo bo => Model.item _ _ _ wo bo _ l) e15 e16

end Results

/-- From equal arguments, the row numbers in range, the kernel and the reference end with the same result. -/
theorem algebraic : Cert.algebraic_KernelIdeal_ReferenceIdeal := fun m g m' g' hpre hm => by
  have hr : ∀ d : Dev Cert.KernelIdeal.nD, ∀ j : Cert.KernelIdeal.S16x512.Idx,
      ((m (d, Proc.devRef .tc Cert.KernelIdeal.main_arg1) : Cert.KernelIdeal.S16x512.Idx → BitVec 32) j).toNat < 100000 :=
    fun d => list_in_range _ _ _ _ _ _ _ _ _ _ _ _ _ _ _ _ _ (hpre d)
  have hs : ∀ c, Same (StableHlo.launchContents m c) (StableHlo.launchContents m' c) := fun c => by
    obtain ⟨h0, h1, h2, h3, h4, h5, h6, h7, h8, h9, h10, h11, h12, h13, h14, h15, h16⟩ := hm c
    exact ⟨h0, h1, h2, h3, h4, h5, h6, h7, h8, h9, h10, h11, h12, h13, h14, h15, h16⟩
  refine ⟨fun c => Cert.KernelIdeal.Main.finalV m c (Proc.devRef .tc Cert.KernelIdeal.main_v12), ?_, ?_⟩
  · exact (θ_run Cert.KernelIdeal.defs _ _).mono
      (fun _ h c => ⟨(h.1 c).2, (h.1 c).1 Cert.KernelIdeal.main_arg0 rfl (by decide), (h.1 c).1 Cert.KernelIdeal.main_arg1 rfl (by decide), (h.1 c).1 Cert.KernelIdeal.main_arg2 rfl (by decide), (h.1 c).1 Cert.KernelIdeal.main_arg3 rfl (by decide), (h.1 c).1 Cert.KernelIdeal.main_arg4 rfl (by decide), (h.1 c).1 Cert.KernelIdeal.main_arg5 rfl (by decide), (h.1 c).1 Cert.KernelIdeal.main_arg6 rfl (by decide), (h.1 c).1 Cert.KernelIdeal.main_arg7 rfl (by decide), (h.1 c).1 Cert.KernelIdeal.main_arg8 rfl (by decide), (h.1 c).1 Cert.KernelIdeal.main_arg9 rfl (by decide), (h.1 c).1 Cert.KernelIdeal.main_arg10 rfl (by decide), (h.1 c).1 Cert.KernelIdeal.main_arg11 rfl (by decide), (h.1 c).1 Cert.KernelIdeal.main_arg12 rfl (by decide), (h.1 c).1 Cert.KernelIdeal.main_arg13 rfl (by decide), (h.1 c).1 Cert.KernelIdeal.main_arg14 rfl (by decide), (h.1 c).1 Cert.KernelIdeal.main_arg15 rfl (by decide), (h.1 c).1 Cert.KernelIdeal.main_arg16 rfl (by decide)⟩)
      (run_kept (F := Idealize.ShloMosaic.Ideal) m g hr)
  · refine (θ_run Cert.ReferenceIdeal.defs _ _).mono (fun r h c => ⟨(h c).1.trans ?_, (h c).2⟩)
      (Cert.ReferenceIdeal.Value.run (F := Idealize.ShloMosaic.Ideal) m' g')
    refine Eq.trans ?_ (same_result m c (StableHlo.launchContents m' c) (hs c) (hr c))
    unfold refResult Cert.ReferenceIdeal.RefValue.out Cert.ReferenceIdeal.RefValue.step Cert.ReferenceIdeal.RefValue.next
      Cert.ReferenceIdeal.RefValue.mix Cert.ReferenceIdeal.RefValue.gate Cert.ReferenceIdeal.RefValue.cand
      Cert.ReferenceIdeal.RefValue.msg Cert.ReferenceIdeal.Value.res_main_v120 Cert.ReferenceIdeal.Value.res_main_v108
    rfl

end Cert.Proof

end
-- ==== Proof.lean ====
/-
  The certificate: the kernel, its idealization and the reference each terminate without fault, keep their arguments and
  leave every semaphore counter at zero; the idealization is the kernel over the extended reals; and over the extended
  reals kernel and reference compute the same function.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocab
public import proofs.«01_k».proof.Proof.FrameClaims
public import proofs.«01_k».proof.Proof.Algebraic

@[expose] public section

noncomputable section

namespace Cert.Proof

open Idealize.ShloMosaic Idealize.SL.Sem Cert.Kernel

/-- Everything the certificate states, at the facts that the programs ask for. -/
theorem claim : Cert.Claim := ⟨Cert.Kernel.Gen.facts, Cert.KernelIdeal.Gen.facts, Cert.ReferenceIdeal.Gen.facts, Cert.Pre_in_vocab.Gen.facts,
  frame_kernel, frame_ideal, frame_ref, frame_ref_pre, trivial, algebraic⟩

end Cert.Proof

end
